-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S32768x64 : Shape := ⟨2, ![32768, 64]⟩
abbrev S16x128 : Shape := ⟨2, ![16, 128]⟩
abbrev S32768 : Shape := ⟨1, ![32768]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S_ : Shape := ⟨0, ![]⟩

class Facts : Prop where
  bcast_S_S32768 : S_.BroadcastsInDim S32768 (![] : Fin 0 → Fin S32768.rank)
  reducesTo_S32768_S_d0 : S32768.ReducesTo [0] S_
  h_S_ : 0 < S_.numel
  bcast_S_S32768x64 : S_.BroadcastsInDim S32768x64 (![] : Fin 0 → Fin S32768x64.rank)
  reducesTo_S32768x64_S_d0_1 : S32768x64.ReducesTo [0, 1] S_
  bcast_S_S16x128 : S_.BroadcastsInDim S16x128 (![] : Fin 0 → Fin S16x128.rank)
  reducesTo_S16x128_S_d0_1 : S16x128.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_

variable [Facts]

def fn_part3 {F : FTy → Type} [FloatOps F] (main_arg10 : FVec F S64 .f32) (main_v50 : IVec S_ 1) : IVec S_ 1 :=
  let main_v51 : FVec F S64 .f32 := Host.absf main_arg10
  let main_cst_19 : FVec F S_ .f32 := constant S_ .f32 0x7F800000#32
  let main_v52 : FVec F S64 .f32 := broadcastInDim S64 ![] bcast_S_S64 main_cst_19
  let main_v53 : IVec S64 1 := cmpf .olt main_v51 main_v52
  let main_c_20 : IVec S_ 1 := constantI S_ 1 1#1
  let main_v54 : IVec S_ 1 := (fun x v => Host.reduce IntOp.andi x v reducesTo_S64_S_d0 h_S_) main_v53 main_c_20
  let main_v55 : IVec S_ 1 := andi main_v50 main_v54
  main_v55

def fn_part2 {F : FTy → Type} [FloatOps F] (main_arg7 : FVec F S64x128 .f32) (main_arg8 : FVec F S128 .f32) (main_arg9 : FVec F S128x64 .f32) (main_arg10 : FVec F S64 .f32) (main_v30 : IVec S_ 1) (main_v33 : IVec S64 1) : IVec S_ 1 :=
  let main_c_12 : IVec S_ 1 := constantI S_ 1 1#1
  let main_v34 : IVec S_ 1 := (fun x v => Host.reduce IntOp.andi x v reducesTo_S64_S_d0 h_S_) main_v33 main_c_12
  let main_v35 : IVec S_ 1 := andi main_v30 main_v34
  let main_v36 : FVec F S64x128 .f32 := Host.absf main_arg7
  let main_cst_13 : FVec F S_ .f32 := constant S_ .f32 0x7F800000#32
  let main_v37 : FVec F S64x128 .f32 := broadcastInDim S64x128 ![] bcast_S_S64x128 main_cst_13
  let main_v38 : IVec S64x128 1 := cmpf .olt main_v36 main_v37
  let main_c_14 : IVec S_ 1 := constantI S_ 1 1#1
  let main_v39 : IVec S_ 1 := (fun x v => Host.reduce IntOp.andi x v reducesTo_S64x128_S_d0_1 h_S_) main_v38 main_c_14
  let main_v40 : IVec S_ 1 := andi main_v35 main_v39
  let main_v41 : FVec F S128 .f32 := Host.absf main_arg8
  let main_cst_15 : FVec F S_ .f32 := constant S_ .f32 0x7F800000#32
  let main_v42 : FVec F S128 .f32 := broadcastInDim S128 ![] bcast_S_S128 main_cst_15
  let main_v43 : IVec S128 1 := cmpf .olt main_v41 main_v42
  let main_c_16 : IVec S_ 1 := constantI S_ 1 1#1
  let main_v44 : IVec S_ 1 := (fun x v => Host.reduce IntOp.andi x v reducesTo_S128_S_d0 h_S_) main_v43 main_c_16
  let main_v45 : IVec S_ 1 := andi main_v40 main_v44
  let main_v46 : FVec F S128x64 .f32 := Host.absf main_arg9
  let main_cst_17 : FVec F S_ .f32 := constant S_ .f32 0x7F800000#32
  let main_v47 : FVec F S128x64 .f32 := broadcastInDim S128x64 ![] bcast_S_S128x64 main_cst_17
  let main_v48 : IVec S128x64 1 := cmpf .olt main_v46 main_v47
  let main_c_18 : IVec S_ 1 := constantI S_ 1 1#1
  let main_v49 : IVec S_ 1 := (fun x v => Host.reduce IntOp.andi x v reducesTo_S128x64_S_d0_1 h_S_) main_v48 main_c_18
  let main_v50 : IVec S_ 1 := andi main_v45 main_v49
  fn_part3 (F := F) main_arg10 main_v50

def fn_part1 {F : FTy → Type} [FloatOps F] (main_arg4 : FVec F S64 .f32) (main_arg5 : FVec F S64x64 .f32) (main_arg6 : FVec F S64 .f32) (main_arg7 : FVec F S64x128 .f32) (main_arg8 : FVec F S128 .f32) (main_arg9 : FVec F S128x64 .f32) (main_arg10 : FVec F S64 .f32) (main_v15 : IVec S_ 1) (main_v16 : FVec F S64x64 .f32) : IVec S_ 1 :=
  let main_cst_5 : FVec F S_ .f32 := constant S_ .f32 0x7F800000#32
  let main_v17 : FVec F S64x64 .f32 := broadcastInDim S64x64 ![] bcast_S_S64x64 main_cst_5
  let main_v18 : IVec S64x64 1 := cmpf .olt main_v16 main_v17
  let main_c_6 : IVec S_ 1 := constantI S_ 1 1#1
  let main_v19 : IVec S_ 1 := (fun x v => Host.reduce IntOp.andi x v reducesTo_S64x64_S_d0_1 h_S_) main_v18 main_c_6
  let main_v20 : IVec S_ 1 := andi main_v15 main_v19
  let main_v21 : FVec F S64 .f32 := Host.absf main_arg4
  let main_cst_7 : FVec F S_ .f32 := constant S_ .f32 0x7F800000#32
  let main_v22 : FVec F S64 .f32 := broadcastInDim S64 ![] bcast_S_S64 main_cst_7
  let main_v23 : IVec S64 1 := cmpf .olt main_v21 main_v22
  let main_c_8 : IVec S_ 1 := constantI S_ 1 1#1
  let main_v24 : IVec S_ 1 := (fun x v => Host.reduce IntOp.andi x v reducesTo_S64_S_d0 h_S_) main_v23 main_c_8
  let main_v25 : IVec S_ 1 := andi main_v20 main_v24
  let main_v26 : FVec F S64x64 .f32 := Host.absf main_arg5
  let main_cst_9 : FVec F S_ .f32 := constant S_ .f32 0x7F800000#32
  let main_v27 : FVec F S64x64 .f32 := broadcastInDim S64x64 ![] bcast_S_S64x64 main_cst_9
  let main_v28 : IVec S64x64 1 := cmpf .olt main_v26 main_v27
  let main_c_10 : IVec S_ 1 := constantI S_ 1 1#1
  let main_v29 : IVec S_ 1 := (fun x v => Host.reduce IntOp.andi x v reducesTo_S64x64_S_d0_1 h_S_) main_v28 main_c_10
  let main_v30 : IVec S_ 1 := andi main_v25 main_v29
  let main_v31 : FVec F S64 .f32 := Host.absf main_arg6
  let main_cst_11 : FVec F S_ .f32 := constant S_ .f32 0x7F800000#32
  let main_v32 : FVec F S64 .f32 := broadcastInDim S64 ![] bcast_S_S64 main_cst_11
  let main_v33 : IVec S64 1 := cmpf .olt main_v31 main_v32
  fn_part2 (F := F) main_arg7 main_arg8 main_arg9 main_arg10 main_v30 main_v33

def fn {F : FTy → Type} [FloatOps F] (main_arg0 : FVec F S32768x64 .f32) (main_arg1 : FVec F S16x128 .f32) (main_arg2 : IVec S32768 32) (main_arg3 : FVec F S64x64 .f32) (main_arg4 : FVec F S64 .f32) (main_arg5 : FVec F S64x64 .f32) (main_arg6 : FVec F S64 .f32) (main_arg7 : FVec F S64x128 .f32) (main_arg8 : FVec F S128 .f32) (main_arg9 : FVec F S128x64 .f32) (main_arg10 : FVec F S64 .f32) : IVec S_ 1 :=
  let main_c : IVec S_ 32 := constantI S_ 32 0#32
  let main_v0 : IVec S32768 32 := broadcastInDim S32768 ![] bcast_S_S32768 main_c
  let main_v1 : IVec S32768 1 := cmpi .sge main_arg2 main_v0
  let main_c_0 : IVec S_ 32 := constantI S_ 32 16#32
  let main_v2 : IVec S32768 32 := broadcastInDim S32768 ![] bcast_S_S32768 main_c_0
  let main_v3 : IVec S32768 1 := cmpi .slt main_arg2 main_v2
  let main_v4 : IVec S32768 1 := andi main_v1 main_v3
  let main_c_1 : IVec S_ 1 := constantI S_ 1 1#1
  let main_v5 : IVec S_ 1 := (fun x v => Host.reduce IntOp.andi x v reducesTo_S32768_S_d0 h_S_) main_v4 main_c_1
  let main_v6 : FVec F S32768x64 .f32 := Host.absf main_arg0
  let main_cst : FVec F S_ .f32 := constant S_ .f32 0x7F800000#32
  let main_v7 : FVec F S32768x64 .f32 := broadcastInDim S32768x64 ![] bcast_S_S32768x64 main_cst
  let main_v8 : IVec S32768x64 1 := cmpf .olt main_v6 main_v7
  let main_c_2 : IVec S_ 1 := constantI S_ 1 1#1
  let main_v9 : IVec S_ 1 := (fun x v => Host.reduce IntOp.andi x v reducesTo_S32768x64_S_d0_1 h_S_) main_v8 main_c_2
  let main_v10 : IVec S_ 1 := andi main_v5 main_v9
  let main_v11 : FVec F S16x128 .f32 := Host.absf main_arg1
  let main_cst_3 : FVec F S_ .f32 := constant S_ .f32 0x7F800000#32
  let main_v12 : FVec F S16x128 .f32 := broadcastInDim S16x128 ![] bcast_S_S16x128 main_cst_3
  let main_v13 : IVec S16x128 1 := cmpf .olt main_v11 main_v12
  let main_c_4 : IVec S_ 1 := constantI S_ 1 1#1
  let main_v14 : IVec S_ 1 := (fun x v => Host.reduce IntOp.andi x v reducesTo_S16x128_S_d0_1 h_S_) main_v13 main_c_4
  let main_v15 : IVec S_ 1 := andi main_v10 main_v14
  let main_v16 : FVec F S64x64 .f32 := Host.absf main_arg3
  fn_part1 (F := F) main_arg4 main_arg5 main_arg6 main_arg7 main_arg8 main_arg9 main_arg10 main_v15 main_v16
-- ==== Kernel.lean ====
abbrev S32768x64 : Shape := ⟨2, ![32768, 64]⟩
abbrev S16x128 : Shape := ⟨2, ![16, 128]⟩
abbrev S32768 : Shape := ⟨1, ![32768]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S1x32768 : Shape := ⟨2, ![1, 32768]⟩
abbrev S1x64 : Shape := ⟨2, ![1, 64]⟩
abbrev S16x64 : Shape := ⟨2, ![16, 64]⟩
abbrev S16x1 : Shape := ⟨2, ![16, 1]⟩
abbrev S16 : Shape := ⟨1, ![16]⟩
abbrev S4096x64 : Shape := ⟨2, ![4096, 64]⟩
abbrev S1x4096 : Shape := ⟨2, ![1, 4096]⟩
abbrev S16x4096 : Shape := ⟨2, ![16, 4096]⟩
abbrev S4096 : Shape := ⟨1, ![4096]⟩
abbrev S1x16384 : Shape := ⟨2, ![1, 16384]⟩
abbrev S16x16384 : Shape := ⟨2, ![16, 16384]⟩
abbrev S16384 : Shape := ⟨1, ![16384]⟩

abbrev nBuf : Space → Nat
  | .hbm => 33
  | .vmem => 35
  | .smem => 0
  | _ => 0

abbrev bufTy : (tb : Table) → Fin (tcTables nBuf tb) → BufTy
  | .hbm, ⟨0, _⟩ => ⟨S32768x64, .f32⟩
  | .hbm, ⟨1, _⟩ => ⟨S16x128, .f32⟩
  | .hbm, ⟨2, _⟩ => ⟨S32768, .i32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S1x32768, .i32⟩
  | .hbm, ⟨12, _⟩ => ⟨S32768x64, .bf16⟩
  | .hbm, ⟨13, _⟩ => ⟨S64x64, .f32⟩
  | .hbm, ⟨14, _⟩ => ⟨S64x64, .f32⟩
  | .hbm, ⟨15, _⟩ => ⟨S64x64, .bf16⟩
  | .hbm, ⟨16, _⟩ => ⟨S64, .f32⟩
  | .hbm, ⟨17, _⟩ => ⟨S1x64, .f32⟩
  | .hbm, ⟨18, _⟩ => ⟨S64, .f32⟩
  | .hbm, ⟨19, _⟩ => ⟨S1x64, .f32⟩
  | .hbm, ⟨20, _⟩ => ⟨S1x64, .f32⟩
  | .hbm, ⟨21, _⟩ => ⟨S1x64, .f32⟩
  | .hbm, ⟨22, _⟩ => ⟨S1x64, .f32⟩
  | .hbm, ⟨23, _⟩ => ⟨S64x64, .bf16⟩
  | .hbm, ⟨24, _⟩ => ⟨S64x64, .bf16⟩
  | .hbm, ⟨25, _⟩ => ⟨S16x64, .bf16⟩
  | .hbm, ⟨26, _⟩ => ⟨S16x1, .f32⟩
  | .hbm, ⟨27, _⟩ => ⟨S1x32768, .f32⟩
  | .hbm, ⟨28, _⟩ => ⟨S16x1, .f32⟩
  | .hbm, ⟨29, _⟩ => ⟨S16x1, .f32⟩
  | .hbm, ⟨30, _⟩ => ⟨S16x64, .f32⟩
  | .hbm, ⟨31, _⟩ => ⟨S1x32768, .f32⟩
  | .hbm, ⟨32, _⟩ => ⟨S32768, .f32⟩
  | .local _ .vmem, ⟨0, _⟩ => ⟨S16x128, .f32⟩
  | .local _ .vmem, ⟨1, _⟩ => ⟨S128x64, .f32⟩
  | .local _ .vmem, ⟨2, _⟩ => ⟨S1x64, .f32⟩
  | .local _ .vmem, ⟨3, _⟩ => ⟨S64x64, .f32⟩
  | .local _ .vmem, ⟨4, _⟩ => ⟨S1x64, .f32⟩
  | .local _ .vmem, ⟨5, _⟩ => ⟨S16x64, .bf16⟩
  | .local _ .vmem, ⟨6, _⟩ => ⟨S16x1, .f32⟩
  | .local _ .vmem, ⟨7, _⟩ => ⟨S4096x64, .bf16⟩
  | .local _ .vmem, ⟨8, _⟩ => ⟨S4096x64, .bf16⟩
  | .local _ .vmem, ⟨9, _⟩ => ⟨S1x4096, .i32⟩
  | .local _ .vmem, ⟨10, _⟩ => ⟨S1x4096, .i32⟩
  | .local _ .vmem, ⟨11, _⟩ => ⟨S64x64, .bf16⟩
  | .local _ .vmem, ⟨12, _⟩ => ⟨S1x64, .f32⟩
  | .local _ .vmem, ⟨13, _⟩ => ⟨S64x64, .bf16⟩
  | .local _ .vmem, ⟨14, _⟩ => ⟨S1x64, .f32⟩
  | .local _ .vmem, ⟨15, _⟩ => ⟨S64x64, .bf16⟩
  | .local _ .vmem, ⟨16, _⟩ => ⟨S1x64, .f32⟩
  | .local _ .vmem, ⟨17, _⟩ => ⟨S16x64, .bf16⟩
  | .local _ .vmem, ⟨18, _⟩ => ⟨S16x1, .f32⟩
  | .local _ .vmem, ⟨19, _⟩ => ⟨S1x4096, .f32⟩
  | .local _ .vmem, ⟨20, _⟩ => ⟨S1x4096, .f32⟩
  | .local _ .vmem, ⟨21, _⟩ => ⟨S16x1, .f32⟩
  | .local _ .vmem, ⟨22, _⟩ => ⟨S16x1, .f32⟩
  | .local _ .vmem, ⟨23, _⟩ => ⟨S16x64, .f32⟩
  | .local _ .vmem, ⟨24, _⟩ => ⟨S16x64, .f32⟩
  | .local _ .vmem, ⟨25, _⟩ => ⟨S16x1, .f32⟩
  | .local _ .vmem, ⟨26, _⟩ => ⟨S16x1, .f32⟩
  | .local _ .vmem, ⟨27, _⟩ => ⟨S1x16384, .f32⟩
  | .local _ .vmem, ⟨28, _⟩ => ⟨S1x16384, .f32⟩
  | .local _ .vmem, ⟨29, _⟩ => ⟨S1x16384, .i32⟩
  | .local _ .vmem, ⟨30, _⟩ => ⟨S1x16384, .i32⟩
  | .local _ .vmem, ⟨31, _⟩ => ⟨S16x1, .f32⟩
  | .local _ .vmem, ⟨32, _⟩ => ⟨S16x1, .f32⟩
  | .local _ .vmem, ⟨33, _⟩ => ⟨S1x16384, .f32⟩
  | .local _ .vmem, ⟨34, _⟩ => ⟨S1x16384, .f32⟩
  | _, _ => ⟨S32768x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_v12 : Ref sig .tc := ⟨.hbm, 23, rfl⟩
abbrev main_call0_v13 : Ref sig .tc := ⟨.hbm, 24, rfl⟩
abbrev main_call0_v14_0 : Ref sig .tc := ⟨.hbm, 25, rfl⟩
abbrev main_call0_v14_1 : Ref sig .tc := ⟨.hbm, 26, rfl⟩
abbrev main_call0_v15_0 : Ref sig .tc := ⟨.hbm, 27, rfl⟩
abbrev main_call0_v15_1 : Ref sig .tc := ⟨.hbm, 28, rfl⟩
abbrev main_call0_v15_2 : Ref sig .tc := ⟨.hbm, 29, rfl⟩
abbrev main_v0_0 : Ref sig .tc := ⟨.hbm, 30, rfl⟩
abbrev main_call0_v16 : Ref sig .tc := ⟨.hbm, 31, rfl⟩
abbrev main_v0_1 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg8_0 : Ref sig .tc := ⟨.vmem, 17, rfl⟩
abbrev cc1_stg9_0 : Ref sig .tc := ⟨.vmem, 18, rfl⟩
abbrev cc1_stg10_0 : Ref sig .tc := ⟨.vmem, 19, rfl⟩
abbrev cc1_stg10_1 : Ref sig .tc := ⟨.vmem, 20, rfl⟩
abbrev cc1_stg11_0 : Ref sig .tc := ⟨.vmem, 21, rfl⟩
abbrev cc1_stg12_0 : Ref sig .tc := ⟨.vmem, 22, rfl⟩
abbrev cc1_stg13_0 : Ref sig .tc := ⟨.vmem, 23, rfl⟩
abbrev cc1_scratch0 : Ref sig .tc := ⟨.vmem, 24, rfl⟩
abbrev cc1_scratch1 : Ref sig .tc := ⟨.vmem, 25, rfl⟩
abbrev cc1_scratch2 : Ref sig .tc := ⟨.vmem, 26, rfl⟩
abbrev cc2_stg0_0 : Ref sig .tc := ⟨.vmem, 27, rfl⟩
abbrev cc2_stg0_1 : Ref sig .tc := ⟨.vmem, 28, rfl⟩
abbrev cc2_stg1_0 : Ref sig .tc := ⟨.vmem, 29, rfl⟩
abbrev cc2_stg1_1 : Ref sig .tc := ⟨.vmem, 30, rfl⟩
abbrev cc2_stg2_0 : Ref sig .tc := ⟨.vmem, 31, rfl⟩
abbrev cc2_stg3_0 : Ref sig .tc := ⟨.vmem, 32, rfl⟩
abbrev cc2_stg4_0 : Ref sig .tc := ⟨.vmem, 33, rfl⟩
abbrev cc2_stg4_1 : Ref sig .tc := ⟨.vmem, 34, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem8_0 : DmaSem sig := 17
abbrev cc1_sem9_0 : DmaSem sig := 18
abbrev cc1_sem10_0 : DmaSem sig := 19
abbrev cc1_sem10_1 : DmaSem sig := 20
abbrev cc1_sem11_0 : DmaSem sig := 21
abbrev cc1_sem12_0 : DmaSem sig := 22
abbrev cc1_sem13_0 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem4_1 : DmaSem sig := 31

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S4096x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x4096 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x64 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S16x64 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S16x1 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S1x4096 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 1 → Memref sig .tc .vmem S16x1 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S16x1 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S16x64 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev grid2 : Pipeline.Grid := ⟨1, ![2], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S1x16384 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x16384 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S16x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S16x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S1x16384 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]
-- ==== ReferenceIdeal.lean ====
abbrev S32768x64 : Shape := ⟨2, ![32768, 64]⟩
abbrev S16x128 : Shape := ⟨2, ![16, 128]⟩
abbrev S32768 : Shape := ⟨1, ![32768]⟩
abbrev S64x64 : Shape := ⟨2, ![64, 64]⟩
abbrev S64 : Shape := ⟨1, ![64]⟩
abbrev S64x128 : Shape := ⟨2, ![64, 128]⟩
abbrev S128 : Shape := ⟨1, ![128]⟩
abbrev S128x64 : Shape := ⟨2, ![128, 64]⟩
abbrev S1x64 : Shape := ⟨2, ![1, 64]⟩
abbrev S_ : Shape := ⟨0, ![]⟩
abbrev S32768x128 : Shape := ⟨2, ![32768, 128]⟩
abbrev S1x128 : Shape := ⟨2, ![1, 128]⟩
abbrev S16x64 : Shape := ⟨2, ![16, 64]⟩
abbrev S32768x1 : Shape := ⟨2, ![32768, 1]⟩
abbrev S1 : Shape := ⟨1, ![1]⟩
abbrev S1x1 : Shape := ⟨2, ![1, 1]⟩
abbrev S1x32768 : Shape := ⟨2, ![1, 32768]⟩
abbrev S16 : Shape := ⟨1, ![16]⟩
abbrev S16x1 : Shape := ⟨2, ![16, 1]⟩
abbrev S16x32768 : Shape := ⟨2, ![16, 32768]⟩

abbrev nBuf : Space → Nat
  | .hbm => 145
  | .vmem => 0
  | .smem => 0
  | _ => 0

abbrev hbmTy0_0 (i : Nat) : BufTy := match i % 128 with
  | 0 => ⟨S32768x64, .f32⟩
  | 1 => ⟨S16x128, .f32⟩
  | 2 => ⟨S32768, .i32⟩
  | 3 => ⟨S64x64, .f32⟩
  | 4 => ⟨S64, .f32⟩
  | 5 => ⟨S64x64, .f32⟩
  | 6 => ⟨S64, .f32⟩
  | 7 => ⟨S64x128, .f32⟩
  | 8 => ⟨S128, .f32⟩
  | 9 => ⟨S128x64, .f32⟩
  | 10 => ⟨S64, .f32⟩
  | 11 => ⟨S32768x64, .f32⟩
  | 12 => ⟨S1x64, .f32⟩
  | 13 => ⟨S32768x64, .f32⟩
  | 14 => ⟨S32768x64, .f32⟩
  | 15 => ⟨S_, .f32⟩
  | 16 => ⟨S32768x64, .f32⟩
  | 17 => ⟨S32768x64, .f32⟩
  | 18 => ⟨S32768x64, .f32⟩
  | 19 => ⟨S1x64, .f32⟩
  | 20 => ⟨S32768x64, .f32⟩
  | 21 => ⟨S32768x64, .f32⟩
  | 22 => ⟨S_, .f32⟩
  | 23 => ⟨S32768x64, .f32⟩
  | 24 => ⟨S32768x64, .f32⟩
  | 25 => ⟨S32768x128, .f32⟩
  | 26 => ⟨S1x128, .f32⟩
  | 27 => ⟨S32768x128, .f32⟩
  | 28 => ⟨S32768x128, .f32⟩
  | 29 => ⟨S32768x64, .f32⟩
  | 30 => ⟨S32768x64, .f32⟩
  | 31 => ⟨S16x64, .f32⟩
  | 32 => ⟨S1x64, .f32⟩
  | 33 => ⟨S16x64, .f32⟩
  | 34 => ⟨S16x64, .f32⟩
  | 35 => ⟨S_, .i32⟩
  | 36 => ⟨S32768, .i32⟩
  | 37 => ⟨S32768, .i1⟩
  | 38 => ⟨S_, .i32⟩
  | 39 => ⟨S32768, .i32⟩
  | 40 => ⟨S32768, .i32⟩
  | 41 => ⟨S32768, .i32⟩
  | 42 => ⟨S32768x1, .i32⟩
  | 43 => ⟨S1, .i32⟩
  | 44 => ⟨S_, .i32⟩
  | 45 => ⟨S32768x1, .i32⟩
  | 46 => ⟨S32768x1, .i1⟩
  | 47 => ⟨S1x1, .i32⟩
  | 48 => ⟨S32768x1, .i32⟩
  | 49 => ⟨S32768x1, .i1⟩
  | 50 => ⟨S32768x1, .i1⟩
  | 51 => ⟨S_, .i1⟩
  | 52 => ⟨S32768, .i1⟩
  | 53 => ⟨S32768x64, .f32⟩
  | 54 => ⟨S32768x64, .i1⟩
  | 55 => ⟨S_, .f32⟩
  | 56 => ⟨S32768x64, .f32⟩
  | 57 => ⟨S32768x64, .f32⟩
  | 58 => ⟨S32768x64, .f32⟩
  | 59 => ⟨S_, .f32⟩
  | 60 => ⟨S32768, .f32⟩
  | 61 => ⟨S_, .f32⟩
  | 62 => ⟨S_, .f32⟩
  | 63 => ⟨S32768, .f32⟩
  | 64 => ⟨S32768, .f32⟩
  | 65 => ⟨S1x32768, .i32⟩
  | 66 => ⟨S16, .i32⟩
  | 67 => ⟨S16x1, .i32⟩
  | 68 => ⟨S16x32768, .i32⟩
  | 69 => ⟨S16x32768, .i32⟩
  | 70 => ⟨S16x32768, .i1⟩
  | 71 => ⟨S1x32768, .f32⟩
  | 72 => ⟨S_, .f32⟩
  | 73 => ⟨S_, .f32⟩
  | 74 => ⟨S16x32768, .f32⟩
  | 75 => ⟨S16x32768, .f32⟩
  | 76 => ⟨S16x32768, .f32⟩
  | 77 => ⟨S_, .f32⟩
  | 78 => ⟨S16, .f32⟩
  | 79 => ⟨S16, .f32⟩
  | 80 => ⟨S_, .f32⟩
  | 81 => ⟨S16, .f32⟩
  | 82 => ⟨S16, .i1⟩
  | 83 => ⟨S_, .f32⟩
  | 84 => ⟨S_, .f32⟩
  | 85 => ⟨S16, .f32⟩
  | 86 => ⟨S16, .f32⟩
  | 87 => ⟨S_, .i32⟩
  | 88 => ⟨S32768, .i32⟩
  | 89 => ⟨S32768, .i1⟩
  | 90 => ⟨S_, .i32⟩
  | 91 => ⟨S32768, .i32⟩
  | 92 => ⟨S32768, .i32⟩
  | 93 => ⟨S32768, .i32⟩
  | 94 => ⟨S32768x1, .i32⟩
  | 95 => ⟨S1, .i32⟩
  | 96 => ⟨S_, .i32⟩
  | 97 => ⟨S32768x1, .i32⟩
  | 98 => ⟨S32768x1, .i1⟩
  | 99 => ⟨S1x1, .i32⟩
  | 100 => ⟨S32768x1, .i32⟩
  | 101 => ⟨S32768x1, .i1⟩
  | 102 => ⟨S32768x1, .i1⟩
  | 103 => ⟨S_, .i1⟩
  | 104 => ⟨S32768, .i1⟩
  | 105 => ⟨S32768, .f32⟩
  | 106 => ⟨S_, .f32⟩
  | 107 => ⟨S32768, .f32⟩
  | 108 => ⟨S32768, .f32⟩
  | 109 => ⟨S32768, .f32⟩
  | 110 => ⟨S32768, .f32⟩
  | 111 => ⟨S_, .f32⟩
  | 112 => ⟨S16, .f32⟩
  | 113 => ⟨S32768x1, .i32⟩
  | 114 => ⟨S16, .f32⟩
  | 115 => ⟨S_, .i32⟩
  | 116 => ⟨S32768, .i32⟩
  | 117 => ⟨S32768, .i1⟩
  | 118 => ⟨S_, .i32⟩
  | 119 => ⟨S32768, .i32⟩
  | 120 => ⟨S32768, .i32⟩
  | 121 => ⟨S32768, .i32⟩
  | 122 => ⟨S32768x1, .i32⟩
  | 123 => ⟨S1, .i32⟩
  | 124 => ⟨S_, .i32⟩
  | 125 => ⟨S32768x1, .i32⟩
  | 126 => ⟨S32768x1, .i1⟩
  | 127 => ⟨S1x1, .i32⟩
  | _ => ⟨S32768x64, .f32⟩

abbrev hbmTy0_1 (i : Nat) : BufTy := match i % 128 with
  | 0 => ⟨S32768x1, .i32⟩
  | 1 => ⟨S32768x1, .i1⟩
  | 2 => ⟨S32768x1, .i1⟩
  | 3 => ⟨S_, .i1⟩
  | 4 => ⟨S32768, .i1⟩
  | 5 => ⟨S32768, .f32⟩
  | 6 => ⟨S_, .f32⟩
  | 7 => ⟨S32768, .f32⟩
  | 8 => ⟨S32768, .f32⟩
  | 9 => ⟨S32768, .f32⟩
  | 10 => ⟨S32768x1, .f32⟩
  | 11 => ⟨S32768x64, .f32⟩
  | 12 => ⟨S32768x64, .f32⟩
  | 13 => ⟨S_, .f32⟩
  | 14 => ⟨S16x64, .f32⟩
  | 15 => ⟨S32768x1, .i32⟩
  | 16 => ⟨S16x64, .f32⟩
  | _ => ⟨S32768x64, .f32⟩

abbrev hbmTy (i : Nat) : BufTy := match i / 128 with
  | 0 => hbmTy0_0 i
  | 1 => hbmTy0_1 i
  | _ => ⟨S32768x64, .f32⟩

abbrev bufTy : (tb : Table) → Fin (tcTables nBuf tb) → BufTy
  | .hbm, ⟨i, _⟩ => hbmTy i
  | _, _ => ⟨S32768x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_cst : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_call1_cst : Ref sig .tc := ⟨.hbm, 22, rfl⟩
abbrev main_call1_v0 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_call2_c : Ref sig .tc := ⟨.hbm, 35, rfl⟩
abbrev main_call2_v0 : Ref sig .tc := ⟨.hbm, 36, rfl⟩
abbrev main_call2_v1 : Ref sig .tc := ⟨.hbm, 37, rfl⟩
abbrev main_call2_c_0 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_call2_v5 : Ref sig .tc := ⟨.hbm, 42, rfl⟩
abbrev main_call2_c_1 : Ref sig .tc := ⟨.hbm, 43, rfl⟩
abbrev main_call2_c_2 : Ref sig .tc := ⟨.hbm, 44, rfl⟩
abbrev main_call2_v6 : Ref sig .tc := ⟨.hbm, 45, rfl⟩
abbrev main_call2_v7 : Ref sig .tc := ⟨.hbm, 46, rfl⟩
abbrev main_call2_v8 : Ref sig .tc := ⟨.hbm, 47, rfl⟩
abbrev main_call2_v9 : Ref sig .tc := ⟨.hbm, 48, rfl⟩
abbrev main_call2_v10 : Ref sig .tc := ⟨.hbm, 49, rfl⟩
abbrev main_call2_v11 : Ref sig .tc := ⟨.hbm, 50, rfl⟩
abbrev main_call2_c_3 : Ref sig .tc := ⟨.hbm, 51, rfl⟩
abbrev main_call2_v12 : Ref sig .tc := ⟨.hbm, 52, rfl⟩
abbrev main_call2_v13 : Ref sig .tc := ⟨.hbm, 53, rfl⟩
abbrev main_call2_v14 : Ref sig .tc := ⟨.hbm, 54, rfl⟩
abbrev main_call2_cst : Ref sig .tc := ⟨.hbm, 55, rfl⟩
abbrev main_call2_v15 : Ref sig .tc := ⟨.hbm, 56, rfl⟩
abbrev main_v20 : Ref sig .tc := ⟨.hbm, 57, rfl⟩
abbrev main_v21 : Ref sig .tc := ⟨.hbm, 58, rfl⟩
abbrev main_cst : Ref sig .tc := ⟨.hbm, 59, rfl⟩
abbrev main_v22 : Ref sig .tc := ⟨.hbm, 60, rfl⟩
abbrev main_cst_0 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_v29 : Ref sig .tc := ⟨.hbm, 68, rfl⟩
abbrev main_v30 : Ref sig .tc := ⟨.hbm, 69, rfl⟩
abbrev main_v31 : Ref sig .tc := ⟨.hbm, 70, rfl⟩
abbrev main_v32 : Ref sig .tc := ⟨.hbm, 71, rfl⟩
abbrev main_cst_1 : Ref sig .tc := ⟨.hbm, 72, rfl⟩
abbrev main_call3_v0 : Ref sig .tc := ⟨.hbm, 73, rfl⟩
abbrev main_call3_v1 : Ref sig .tc := ⟨.hbm, 74, rfl⟩
abbrev main_call3_v2 : Ref sig .tc := ⟨.hbm, 75, rfl⟩
abbrev main_v33 : Ref sig .tc := ⟨.hbm, 76, rfl⟩
abbrev main_cst_2 : Ref sig .tc := ⟨.hbm, 77, rfl⟩
abbrev main_v34 : Ref sig .tc := ⟨.hbm, 78, rfl⟩
abbrev main_v35 : Ref sig .tc := ⟨.hbm, 79, rfl⟩
abbrev main_cst_3 : Ref sig .tc := ⟨.hbm, 80, rfl⟩
abbrev main_v36 : Ref sig .tc := ⟨.hbm, 81, rfl⟩
abbrev main_v37 : Ref sig .tc := ⟨.hbm, 82, rfl⟩
abbrev main_cst_4 : Ref sig .tc := ⟨.hbm, 83, rfl⟩
abbrev main_call4_v0 : Ref sig .tc := ⟨.hbm, 84, rfl⟩
abbrev main_call4_v1 : Ref sig .tc := ⟨.hbm, 85, rfl⟩
abbrev main_v38 : Ref sig .tc := ⟨.hbm, 86, rfl⟩
abbrev main_call5_c : Ref sig .tc := ⟨.hbm, 87, rfl⟩
abbrev main_call5_v0 : Ref sig .tc := ⟨.hbm, 88, rfl⟩
abbrev main_call5_v1 : Ref sig .tc := ⟨.hbm, 89, rfl⟩
abbrev main_call5_c_0 : Ref sig .tc := ⟨.hbm, 90, rfl⟩
abbrev main_call5_v2 : Ref sig .tc := ⟨.hbm, 91, rfl⟩
abbrev main_call5_v3 : Ref sig .tc := ⟨.hbm, 92, rfl⟩
abbrev main_call5_v4 : Ref sig .tc := ⟨.hbm, 93, rfl⟩
abbrev main_call5_v5 : Ref sig .tc := ⟨.hbm, 94, rfl⟩
abbrev main_call5_c_1 : Ref sig .tc := ⟨.hbm, 95, rfl⟩
abbrev main_call5_c_2 : Ref sig .tc := ⟨.hbm, 96, rfl⟩
abbrev main_call5_v6 : Ref sig .tc := ⟨.hbm, 97, rfl⟩
abbrev main_call5_v7 : Ref sig .tc := ⟨.hbm, 98, rfl⟩
abbrev main_call5_v8 : Ref sig .tc := ⟨.hbm, 99, rfl⟩
abbrev main_call5_v9 : Ref sig .tc := ⟨.hbm, 100, rfl⟩
abbrev main_call5_v10 : Ref sig .tc := ⟨.hbm, 101, rfl⟩
abbrev main_call5_v11 : Ref sig .tc := ⟨.hbm, 102, rfl⟩
abbrev main_call5_c_3 : Ref sig .tc := ⟨.hbm, 103, rfl⟩
abbrev main_call5_v12 : Ref sig .tc := ⟨.hbm, 104, rfl⟩
abbrev main_call5_v13 : Ref sig .tc := ⟨.hbm, 105, rfl⟩
abbrev main_call5_cst : Ref sig .tc := ⟨.hbm, 106, rfl⟩
abbrev main_call5_v14 : Ref sig .tc := ⟨.hbm, 107, rfl⟩
abbrev main_v39 : Ref sig .tc := ⟨.hbm, 108, rfl⟩
abbrev main_v40 : Ref sig .tc := ⟨.hbm, 109, rfl⟩
abbrev main_v41 : Ref sig .tc := ⟨.hbm, 110, rfl⟩
abbrev main_cst_5 : Ref sig .tc := ⟨.hbm, 111, rfl⟩
abbrev main_v42 : Ref sig .tc := ⟨.hbm, 112, rfl⟩
abbrev main_v43 : Ref sig .tc := ⟨.hbm, 113, rfl⟩
abbrev main_v44 : Ref sig .tc := ⟨.hbm, 114, rfl⟩
abbrev main_call6_c : Ref sig .tc := ⟨.hbm, 115, rfl⟩
abbrev main_call6_v0 : Ref sig .tc := ⟨.hbm, 116, rfl⟩
abbrev main_call6_v1 : Ref sig .tc := ⟨.hbm, 117, rfl⟩
abbrev main_call6_c_0 : Ref sig .tc := ⟨.hbm, 118, rfl⟩
abbrev main_call6_v2 : Ref sig .tc := ⟨.hbm, 119, rfl⟩
abbrev main_call6_v3 : Ref sig .tc := ⟨.hbm, 120, rfl⟩
abbrev main_call6_v4 : Ref sig .tc := ⟨.hbm, 121, rfl⟩
abbrev main_call6_v5 : Ref sig .tc := ⟨.hbm, 122, rfl⟩
abbrev main_call6_c_1 : Ref sig .tc := ⟨.hbm, 123, rfl⟩
abbrev main_call6_c_2 : Ref sig .tc := ⟨.hbm, 124, rfl⟩
abbrev main_call6_v6 : Ref sig .tc := ⟨.hbm, 125, rfl⟩
abbrev main_call6_v7 : Ref sig .tc := ⟨.hbm, 126, rfl⟩
abbrev main_call6_v8 : Ref sig .tc := ⟨.hbm, 127, rfl⟩
abbrev main_call6_v9 : Ref sig .tc := ⟨.hbm, 128, rfl⟩
abbrev main_call6_v10 : Ref sig .tc := ⟨.hbm, 129, rfl⟩
abbrev main_call6_v11 : Ref sig .tc := ⟨.hbm, 130, rfl⟩
abbrev main_call6_c_3 : Ref sig .tc := ⟨.hbm, 131, rfl⟩
abbrev main_call6_v12 : Ref sig .tc := ⟨.hbm, 132, rfl⟩
abbrev main_call6_v13 : Ref sig .tc := ⟨.hbm, 133, rfl⟩
abbrev main_call6_cst : Ref sig .tc := ⟨.hbm, 134, rfl⟩
abbrev main_call6_v14 : Ref sig .tc := ⟨.hbm, 135, rfl⟩
abbrev main_v45 : Ref sig .tc := ⟨.hbm, 136, rfl⟩
abbrev main_v46 : Ref sig .tc := ⟨.hbm, 137, rfl⟩
abbrev main_v47 : Ref sig .tc := ⟨.hbm, 138, rfl⟩
abbrev main_v48 : Ref sig .tc := ⟨.hbm, 139, rfl⟩
abbrev main_v49 : Ref sig .tc := ⟨.hbm, 140, rfl⟩
abbrev main_cst_6 : Ref sig .tc := ⟨.hbm, 141, rfl⟩
abbrev main_v50 : Ref sig .tc := ⟨.hbm, 142, rfl⟩
abbrev main_v51 : Ref sig .tc := ⟨.hbm, 143, rfl⟩
abbrev main_v52 : Ref sig .tc := ⟨.hbm, 144, rfl⟩

abbrev nD : Nat := 1
abbrev τ : Topo := Topo.v7x

variable {F : FTy → Type} [FloatOps F]
-- ==== Proof.KernelIdeal.Region0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Tactic

@[expose] public section

set_option maxRecDepth 16384

/-! The first launch as a segment: its proof data over any entry contents `V`, and the body at every point. -/

noncomputable section

namespace Cert.KernelIdeal.Seg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's buffer holds its block at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- An input window's buffer holds its block at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- An input window's buffer holds its block at every point. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- An input window's buffer holds its block at every point. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- An input window's buffer holds its block at every point. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- The whole of a buffer of this shape. -/
abbrev r0_0 : Rect S16x128 := Rect.unit (s := S16x128) ![0, 0] S16x128.size inb_S16x128_S16x128_0_0
/-- The whole of a buffer of this shape. -/
abbrev r0_1 : Rect S128x64 := Rect.unit (s := S128x64) ![0, 0] S128x64.size inb_S128x64_S128x64_0_0
/-- The whole of a buffer of this shape. -/
abbrev r0_2 : Rect S1x64 := Rect.unit (s := S1x64) ![0, 0] S1x64.size inb_S1x64_S1x64_0_0
/-- The whole of a buffer of this shape. -/
abbrev r0_3 : Rect S64x64 := Rect.unit (s := S64x64) ![0, 0] S64x64.size inb_S64x64_S64x64_0_0
/-- The whole of a buffer of this shape. -/
abbrev r0_4 : Rect S16x64 := Rect.unit (s := S16x64) ![0, 0] S16x64.size inb_S16x64_S16x64_0_0
/-- The whole of a buffer of this shape. -/
abbrev r0_5 : Rect S16x1 := Rect.unit (s := S16x1) ![0, 0] S16x1.size inb_S16x1_S16x1_0_0

/-- What the body leaves in this output window, from the input blocks. -/
def out0_5 (x0 : Vec F S16x128 .f32) (x1 : Vec F S128x64 .f32) (x2 : Vec F S1x64 .f32) (x3 : Vec F S64x64 .f32) (x4 : Vec F S1x64 .f32) : Vec F S16x64 .bf16 :=
  View.canon [⟨r0_4, k0_pay2 (View.ld x0 r0_0) (View.ld x1 r0_1) (View.ld x2 r0_2) (View.ld x3 r0_3)⟩]

/-- The one store covers the buffer. -/
theorem cover0_5 (p0 : Vec F S16x64 .bf16) (y : S16x64.Idx) :
    ∃ pc ∈ ([⟨r0_4, p0⟩] : List (View.Piece (Elt F) S16x64 .bf16)), y ∈ pc.1.set :=
  View.cover_of_tiled [⟨r0_4, p0⟩] S16x64.size (by rfl) y

/-- What the body leaves in this output window, from the input blocks. -/
def out0_6 (x0 : Vec F S16x128 .f32) (x1 : Vec F S128x64 .f32) (x2 : Vec F S1x64 .f32) (x3 : Vec F S64x64 .f32) (x4 : Vec F S1x64 .f32) : Vec F S16x1 .f32 :=
  View.canon [⟨r0_5, k0_pay3 (View.ld x0 r0_0) (View.ld x1 r0_1) (View.ld x2 r0_2) (View.ld x4 r0_2)⟩]

/-- The one store covers the buffer. -/
theorem cover0_6 (p0 : Vec F S16x1 .f32) (y : S16x1.Idx) :
    ∃ pc ∈ ([⟨r0_5, p0⟩] : List (View.Piece (Elt F) S16x1 .f32)), y ∈ pc.1.set :=
  View.cover_of_tiled [⟨r0_5, p0⟩] S16x1.size (by rfl) y

set_option maxHeartbeats 1000000 in
/-- The body on whole buffers: the inputs stay, each output holds its payload of the inputs. -/
theorem sound_kernel0 (c : Dev nD) (E : Set ℕ) (i : grid0.Coords) (arg1 : Memref sig .tc .vmem S16x128 .f32) (harg1 : arg1.IsWhole) (arg2 : Memref sig .tc .vmem S128x64 .f32) (harg2 : arg2.IsWhole) (arg3 : Memref sig .tc .vmem S1x64 .f32) (harg3 : arg3.IsWhole) (arg4 : Memref sig .tc .vmem S64x64 .f32) (harg4 : arg4.IsWhole) (arg5 : Memref sig .tc .vmem S1x64 .f32) (harg5 : arg5.IsWhole) (arg6 : Memref sig .tc .vmem S16x64 .bf16) (harg6 : arg6.IsWhole) (arg7 : Memref sig .tc .vmem S16x1 .f32) (harg7 : arg7.IsWhole)
    (x0 : Vec F S16x128 .f32) (x1 : Vec F S128x64 .f32) (x2 : Vec F S1x64 .f32) (x3 : Vec F S64x64 .f32) (x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out0_5 x0 x1 x2 x3 x4) ∗ owns (c : Thread nD τ) arg7 fullShare (out0_6 x0 x1 x2 x3 x4)) -∗ K ⟨⟩))
      ⊢ wp frame (wpE (defs₀ (F := F)) Variants.none c none) E (cc0__init_body i arg1 harg1 arg2 harg2 arg3 harg3 arg4 harg4 arg5 harg5 arg6 harg6 arg7 harg7) K := by
  simp only [cc0__init_body_eq_skeleton]; unfold cc0__init_body_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover0_5 _)
  iexists _; isplitr
  swap; · iexact H6
  ipureintro
  exact View.read_writes_eq_canon _ _ _ (cover0_6 _)

/-- The region's proof data: inputs keep their blocks, outputs hold the body's payloads. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
    | ⟨6, _⟩ => out0_6 (iblk0 V c 0 t) (iblk0 V c 1 t) (iblk0 V c 2 t) (iblk0 V c 3 t) (iblk0 V c 4 t)
  Φ _ := Pipeline.ΦA spec0 c
  q _ := fullShare
  owed _ := 0

/-- The arrays are the entry contents. -/
theorem A_eq0 (c : Dev nD) (w : Fin cfg0.W) : (dat0 V c).A w = V c (Pipeline.arrRef spec0 w) := by
  dsimp only [dat0]

/-- What the body leaves in this window. -/
theorem after0_0 (c : Dev nD) (t : Fin cfg0.N) : (dat0 V c).after 0 t = iblk0 V c 0 t := by dsimp only [dat0]
/-- What the body leaves in this window. -/
theorem after0_1 (c : Dev nD) (t : Fin cfg0.N) : (dat0 V c).after 1 t = iblk0 V c 1 t := by dsimp only [dat0]
/-- What the body leaves in this window. -/
theorem after0_2 (c : Dev nD) (t : Fin cfg0.N) : (dat0 V c).after 2 t = iblk0 V c 2 t := by dsimp only [dat0]
/-- What the body leaves in this window. -/
theorem after0_3 (c : Dev nD) (t : Fin cfg0.N) : (dat0 V c).after 3 t = iblk0 V c 3 t := by dsimp only [dat0]
/-- What the body leaves in this window. -/
theorem after0_4 (c : Dev nD) (t : Fin cfg0.N) : (dat0 V c).after 4 t = iblk0 V c 4 t := by dsimp only [dat0]
/-- What the body leaves in this window. -/
theorem after0_5 (c : Dev nD) (t : Fin cfg0.N) : (dat0 V c).after 5 t = out0_5 (iblk0 V c 0 t) (iblk0 V c 1 t) (iblk0 V c 2 t) (iblk0 V c 3 t) (iblk0 V c 4 t) := by dsimp only [dat0]
/-- What the body leaves in this window. -/
theorem after0_6 (c : Dev nD) (t : Fin cfg0.N) : (dat0 V c).after 6 t = out0_6 (iblk0 V c 0 t) (iblk0 V c 1 t) (iblk0 V c 2 t) (iblk0 V c 3 t) (iblk0 V c 4 t) := by dsimp only [dat0]

/-- An input window's buffer holds its block at every point. -/
theorem before0_0 (c : Dev nD) (t : Fin cfg0.N) (d) : (dat0 V c).before 0 t d = iblk0 V c 0 t :=
  before0_0_of V (dat0 V c) (A_eq0 V c 0) (after0_0 V c) t d
/-- An input window's buffer holds its block at every point. -/
theorem before0_1 (c : Dev nD) (t : Fin cfg0.N) (d) : (dat0 V c).before 1 t d = iblk0 V c 1 t :=
  before0_1_of V (dat0 V c) (A_eq0 V c 1) (after0_1 V c) t d
/-- An input window's buffer holds its block at every point. -/
theorem before0_2 (c : Dev nD) (t : Fin cfg0.N) (d) : (dat0 V c).before 2 t d = iblk0 V c 2 t :=
  before0_2_of V (dat0 V c) (A_eq0 V c 2) (after0_2 V c) t d
/-- An input window's buffer holds its block at every point. -/
theorem before0_3 (c : Dev nD) (t : Fin cfg0.N) (d) : (dat0 V c).before 3 t d = iblk0 V c 3 t :=
  before0_3_of V (dat0 V c) (A_eq0 V c 3) (after0_3 V c) t d
/-- An input window's buffer holds its block at every point. -/
theorem before0_4 (c : Dev nD) (t : Fin cfg0.N) (d) : (dat0 V c).before 4 t d = iblk0 V c 4 t :=
  before0_4_of V (dat0 V c) (A_eq0 V c 4) (after0_4 V c) t d

/-- What the body is called with at point `t`. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- What the body returns at point `t`. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row is the body at the point's buffers. -/
theorem defs₀_row0 (t : Fin cfg0.N) :
    defs₀ (F := F) .tc cfg0.body (cfg0.bodyArgs t (cfg0.slots t)) = bodyAt0 t := by
  unfold defs₀; rw [Defs.onTc_tc]

/-- The body obligation at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- The first output is the scaled product of the projected queries with the key weights. -/
theorem out0_5_eq (x0 : Vec F S16x128 .f32) (x1 : Vec F S128x64 .f32) (x2 : Vec F S1x64 .f32) (x3 : Vec F S64x64 .f32) (x4 : Vec F S1x64 .f32) :
    out0_5 x0 x1 x2 x3 x4 = k0_pay2 x0 x1 x2 x3 := by
  have z : (![0, 0] : Fin 2 → Nat) = fun _ => 0 := by funext a; fin_cases a <;> rfl
  unfold out0_5
  rw [View.canon_unit_zero z, View.ld_unit_zero z, View.ld_unit_zero z, View.ld_unit_zero z, View.ld_unit_zero z]

/-- The second output is the scaled product of the projected queries with the key bias. -/
theorem out0_6_eq (x0 : Vec F S16x128 .f32) (x1 : Vec F S128x64 .f32) (x2 : Vec F S1x64 .f32) (x3 : Vec F S64x64 .f32) (x4 : Vec F S1x64 .f32) :
    out0_6 x0 x1 x2 x3 x4 = k0_pay3 x0 x1 x2 x4 := by
  have z : (![0, 0] : Fin 2 → Nat) = fun _ => 0 := by funext a; fin_cases a <;> rfl
  unfold out0_6
  rw [View.canon_unit_zero z, View.ld_unit_zero z, View.ld_unit_zero z, View.ld_unit_zero z, View.ld_unit_zero z]

end Cert.KernelIdeal.Seg

end
-- ==== Proof.KernelIdeal.Body1.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Tactic
public import Idealize.ShloMosaic.Lib.WordCmp

@[expose] public section

set_option maxRecDepth 16384

/-! The middle launch, body first: the state it carries from block to block, and the body on whole buffers at the first point and at a later one. -/

noncomputable section

namespace Cert.KernelIdeal.Seg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## One block's work as functions of its inputs and of the carried state -/

/-- The ten input blocks of one grid point, in window order. -/
structure Blk (F : FTy → Type) where
  x0 : Vec F S4096x64 .bf16
  x1 : Vec F S1x4096 .i32
  x2 : Vec F S64x64 .bf16
  x3 : Vec F S1x64 .f32
  x4 : Vec F S64x64 .bf16
  x5 : Vec F S1x64 .f32
  x6 : Vec F S64x64 .bf16
  x7 : Vec F S1x64 .f32
  x8 : Vec F S16x64 .bf16
  x9 : Vec F S16x1 .f32

/-- The carried state: the weighted sum, the running maximum and the running denominator of every segment. -/
structure Carry (F : FTy → Type) where
  acc : Vec F S16x64 .f32
  ms : Vec F S16x1 .f32
  ds : Vec F S16x1 .f32

namespace Blk

variable (X : Blk F)

/-- The hidden activations of the block's rows. -/
def hid : FVec F S4096x64 .bf16 := k1_pay6 X.x0 X.x2 X.x3 X.x4 X.x5
/-- The value rows of the block. -/
def val : FVec F S4096x64 .bf16 := k1_pay7 X.x0 X.x2 X.x3 X.x4 X.x5 X.x6 X.x7
/-- The row of logits the block leaves. -/
def lgt : FVec F S1x4096 .f32 := k1_pay12 X.hid (k1_pay8 X.x8) X.x9 X.x1
/-- The running maximum after the block, from the one before. -/
def msN (ms : Vec F S16x1 .f32) : FVec F S16x1 .f32 := k1_pay15 X.hid (k1_pay8 X.x8) X.x9 X.x1 ms
/-- The running denominator after the block. -/
def dsN (ms ds : Vec F S16x1 .f32) : FVec F S16x1 .f32 := k1_pay17 X.hid (k1_pay8 X.x8) X.x9 X.x1 ms ds
/-- The weighted sum after the block. -/
def accN (ms : Vec F S16x1 .f32) (acc : Vec F S16x64 .f32) : FVec F S16x64 .f32 :=
  k1_pay1 X.val (k1_pay14 X.hid (k1_pay8 X.x8) X.x9 X.x1 ms) (k1_pay16 X.hid (k1_pay8 X.x8) X.x9 X.x1 ms) acc
/-- The carried state after the block. -/
def step (s : Carry F) : Carry F := ⟨X.accN s.ms s.acc, X.msN s.ms, X.dsN s.ms s.ds⟩

end Blk

/-- The state the first block starts from. -/
def Carry.init : Carry F := ⟨k1_pay5, k1_pay3, k1_pay4⟩
/-- The embedding a state gives: the weighted sum over the denominator, zero where that is not positive. -/
def Carry.emb (s : Carry F) : FVec F S16x64 .f32 := k1_pay2 s.ds s.acc

/-! ## The body on whole buffers -/

/-- The branch of the body is taken. -/
abbrev isFirst (i : grid1.Coords) : Prop := (Scalar.cmpi .ne (Scalar.extui (Scalar.cmpi .eq (BitVec.ofNat 32 (i 0).val) 0#32)) 0#32) = 1#1
/-- It is taken at the first point and at no other. -/
theorem isFirst_iff : ∀ t : Fin cfg1.N, isFirst (grid1.coords t) ↔ t.val = 0 :=
  (fun t => by
    have ht : t.val < 8 := Nat.lt_of_lt_of_eq t.isLt N_1
    have e0 : (grid1.coords t 0).val = t.val / 1 % 8 := Pipeline.Grid.coords_val t 0 (by decide) rfl
    have e1 : t.val = 0 ↔ t.val % 8 = 0 := by omega
    rw [e1]
    simp only [isFirst, e0]
    word_cmp
   : ∀ t : Fin grid1.N, isFirst (grid1.coords t) ↔ t.val = 0)

/-- A whole-buffer store leaves its payload, whatever was stored before. -/
theorem read_whole_store {sp : Space} {S : Shape} {e : EltTy} (v : View sig .tc sp S e) (f : v.ty.Contents (Elt F))
    {off : Fin S.rank → Nat} (h : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ fun y => ⟨_, List.mem_cons_self, View.mem_set_unit_zero h inb y⟩).trans
    (View.canon_cons_unit_zero h inb w L)

/-- The zero offsets of a store. -/
theorem off0 : (![0, 0] : Fin 2 → Nat) = fun _ => 0 := by funext a; fin_cases a <;> rfl

/-- A whole-buffer load reads the contents. -/
theorem load_held {d : Fin 2 → Nat} {e : EltTy} {m : Memref sig .tc .vmem ⟨2, d⟩ e} (h : m.IsWhole) (x : (⟨2, d⟩ : Shape).Idx → Elt F e)
    (inb : ∀ a, (![0, 0] : Fin 2 → Nat) a + d a ≤ d a) :
    View.readAt (Elt F) m.view (Rect.unit (s := ⟨2, d⟩) ![0, 0] d inb).toLoadRect (h.unread x) = x := by
  rw [View.readAt_eq_ld, h.read_unread]; exact View.ld_unit_zero (S := ⟨2, d⟩) off0 inb x

/-- A whole-buffer load after a whole-buffer store reads what was stored. -/
theorem load_stored {d : Fin 2 → Nat} {e : EltTy} (v : View sig .tc .vmem ⟨2, d⟩ e) (inb : ∀ a, (![0, 0] : Fin 2 → Nat) a + d a ≤ d a)
    (w : (⟨2, d⟩ : Shape).Idx → Elt F e) (L : List (View.Piece (Elt F) ⟨2, d⟩ e)) :
    v.readCov ((⟨Rect.unit (s := ⟨2, d⟩) ![0, 0] d inb, w⟩ : View.Piece (Elt F) ⟨2, d⟩ e) :: L) (Rect.unit (s := ⟨2, d⟩) ![0, 0] d inb).toLoadRect = w := by
  unfold View.readCov
  rw [View.readAt_eq_ld]
  exact (View.ld_unit_zero (S := ⟨2, d⟩) off0 inb _).trans (read_whole_store (S := ⟨2, d⟩) v _ off0 inb w L)

set_option maxHeartbeats 1600000 in
/-- The body at the first point: from any scratch, the state after the block is one step from the initial one. -/
theorem body_first (c : Dev nD) (E : Set ℕ) (i : grid1.Coords) (arg1 : Memref sig .tc .vmem S4096x64 .bf16) (harg1 : arg1.IsWhole) (arg2 : Memref sig .tc .vmem S1x4096 .i32) (harg2 : arg2.IsWhole) (arg3 : Memref sig .tc .vmem S64x64 .bf16) (harg3 : arg3.IsWhole) (arg4 : Memref sig .tc .vmem S1x64 .f32) (harg4 : arg4.IsWhole) (arg5 : Memref sig .tc .vmem S64x64 .bf16) (harg5 : arg5.IsWhole) (arg6 : Memref sig .tc .vmem S1x64 .f32) (harg6 : arg6.IsWhole) (arg7 : Memref sig .tc .vmem S64x64 .bf16) (harg7 : arg7.IsWhole) (arg8 : Memref sig .tc .vmem S1x64 .f32) (harg8 : arg8.IsWhole) (arg9 : Memref sig .tc .vmem S16x64 .bf16) (harg9 : arg9.IsWhole) (arg10 : Memref sig .tc .vmem S16x1 .f32) (harg10 : arg10.IsWhole) (arg11 : Memref sig .tc .vmem S1x4096 .f32) (harg11 : arg11.IsWhole) (arg12 : Memref sig .tc .vmem S16x1 .f32) (harg12 : arg12.IsWhole) (arg13 : Memref sig .tc .vmem S16x1 .f32) (harg13 : arg13.IsWhole) (arg14 : Memref sig .tc .vmem S16x64 .f32) (harg14 : arg14.IsWhole) (arg15 : Memref sig .tc .vmem S16x64 .f32) (harg15 : arg15.IsWhole) (arg16 : Memref sig .tc .vmem S16x1 .f32) (harg16 : arg16.IsWhole) (arg17 : Memref sig .tc .vmem S16x1 .f32) (harg17 : arg17.IsWhole)
    (hc : isFirst i) (X : Blk F) (K : PUnit → sProp 𝕄) :
    iprop(owns (c : Thread nD τ) arg1 fullShare X.x0 ∗ owns (c : Thread nD τ) arg2 fullShare X.x1 ∗ owns (c : Thread nD τ) arg3 fullShare X.x2 ∗ owns (c : Thread nD τ) arg4 fullShare X.x3 ∗ owns (c : Thread nD τ) arg5 fullShare X.x4 ∗ owns (c : Thread nD τ) arg6 fullShare X.x5 ∗ owns (c : Thread nD τ) arg7 fullShare X.x6 ∗ owns (c : Thread nD τ) arg8 fullShare X.x7 ∗ owns (c : Thread nD τ) arg9 fullShare X.x8 ∗ owns (c : Thread nD τ) arg10 fullShare X.x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d)
        ∗ (iprop(owns (c : Thread nD τ) arg1 fullShare X.x0 ∗ owns (c : Thread nD τ) arg2 fullShare X.x1 ∗ owns (c : Thread nD τ) arg3 fullShare X.x2 ∗ owns (c : Thread nD τ) arg4 fullShare X.x3 ∗ owns (c : Thread nD τ) arg5 fullShare X.x4 ∗ owns (c : Thread nD τ) arg6 fullShare X.x5 ∗ owns (c : Thread nD τ) arg7 fullShare X.x6 ∗ owns (c : Thread nD τ) arg8 fullShare X.x7 ∗ owns (c : Thread nD τ) arg9 fullShare X.x8 ∗ owns (c : Thread nD τ) arg10 fullShare X.x9 ∗ owns (c : Thread nD τ) arg11 fullShare X.lgt ∗ owns (c : Thread nD τ) arg12 fullShare (X.step Carry.init).ms ∗ owns (c : Thread nD τ) arg13 fullShare (X.step Carry.init).ds ∗ owns (c : Thread nD τ) arg14 fullShare (X.step Carry.init).emb ∗ owns (c : Thread nD τ) arg15 fullShare (X.step Carry.init).acc ∗ owns (c : Thread nD τ) arg16 fullShare (X.step Carry.init).ms ∗ owns (c : Thread nD τ) arg17 fullShare (X.step Carry.init).ds) -∗ K ⟨⟩))
      ⊢ wp frame (wpE (defs₀ (F := F)) Variants.none c none) E (cc1__pass1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc1__pass1_body_eq_skeleton]; unfold cc1__pass1_body_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%d14, %f14, -, H14⟩, ⟨%d15, %f15, -, H15⟩, ⟨%d16, %f16, -, H16⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr
    swap; · iexact H10
    ipureintro
    refine (read_whole_store _ _ off0 _ _ _).trans ?_
    repeat (first
      | simp only [load_held, load_stored]
      | delta body_first.sl.r_4
      | delta body_first.sl.r_3
      | delta body_first.sl.r_2
      | delta body_first.sl.r_1
      | delta body_first.sl.r
      | delta body_first.sl.v54
      | delta body_first.sl.v64
      | delta body_first.sl.v72
      | delta body_first.sl.v81
      | delta body_first.sl.v82
      | delta body_first.sl.v87
      | delta body_first.sl.H14_2
      | delta body_first.sl.H15_2
      | delta body_first.sl.H16_2
      | delta body_first.sl.H14_1
      | delta body_first.sl.H15_1
      | delta body_first.sl.H16_1)
    rfl
  isplitl [H11]
  · iexists _; isplitr
    swap; · iexact H11
    ipureintro
    refine (read_whole_store _ _ off0 _ _ _).trans ?_
    repeat (first
      | simp only [load_held, load_stored]
      | delta body_first.sl.r_4
      | delta body_first.sl.r_3
      | delta body_first.sl.r_2
      | delta body_first.sl.r_1
      | delta body_first.sl.r
      | delta body_first.sl.v54
      | delta body_first.sl.v64
      | delta body_first.sl.v72
      | delta body_first.sl.v81
      | delta body_first.sl.v82
      | delta body_first.sl.v87
      | delta body_first.sl.H14_2
      | delta body_first.sl.H15_2
      | delta body_first.sl.H16_2
      | delta body_first.sl.H14_1
      | delta body_first.sl.H15_1
      | delta body_first.sl.H16_1)
    rfl
  isplitl [H12]
  · iexists _; isplitr
    swap; · iexact H12
    ipureintro
    refine (read_whole_store _ _ off0 _ _ _).trans ?_
    repeat (first
      | simp only [load_held, load_stored]
      | delta body_first.sl.r_4
      | delta body_first.sl.r_3
      | delta body_first.sl.r_2
      | delta body_first.sl.r_1
      | delta body_first.sl.r
      | delta body_first.sl.v54
      | delta body_first.sl.v64
      | delta body_first.sl.v72
      | delta body_first.sl.v81
      | delta body_first.sl.v82
      | delta body_first.sl.v87
      | delta body_first.sl.H14_2
      | delta body_first.sl.H15_2
      | delta body_first.sl.H16_2
      | delta body_first.sl.H14_1
      | delta body_first.sl.H15_1
      | delta body_first.sl.H16_1)
    rfl
  isplitl [H13]
  · iexists _; isplitr
    swap; · iexact H13
    ipureintro
    refine (read_whole_store _ _ off0 _ _ _).trans ?_
    repeat (first
      | simp only [load_held, load_stored]
      | delta body_first.sl.r_4
      | delta body_first.sl.r_3
      | delta body_first.sl.r_2
      | delta body_first.sl.r_1
      | delta body_first.sl.r
      | delta body_first.sl.v54
      | delta body_first.sl.v64
      | delta body_first.sl.v72
      | delta body_first.sl.v81
      | delta body_first.sl.v82
      | delta body_first.sl.v87
      | delta body_first.sl.H14_2
      | delta body_first.sl.H15_2
      | delta body_first.sl.H16_2
      | delta body_first.sl.H14_1
      | delta body_first.sl.H15_1
      | delta body_first.sl.H16_1)
    rfl
  isplitl [H14]
  · iexists _; isplitr
    swap; · iexact H14
    ipureintro
    refine (read_whole_store _ _ off0 _ _ _).trans ?_
    repeat (first
      | simp only [load_held, load_stored]
      | delta body_first.sl.r_4
      | delta body_first.sl.r_3
      | delta body_first.sl.r_2
      | delta body_first.sl.r_1
      | delta body_first.sl.r
      | delta body_first.sl.v54
      | delta body_first.sl.v64
      | delta body_first.sl.v72
      | delta body_first.sl.v81
      | delta body_first.sl.v82
      | delta body_first.sl.v87
      | delta body_first.sl.H14_2
      | delta body_first.sl.H15_2
      | delta body_first.sl.H16_2
      | delta body_first.sl.H14_1
      | delta body_first.sl.H15_1
      | delta body_first.sl.H16_1)
    rfl
  isplitl [H15]
  · iexists _; isplitr
    swap; · iexact H15
    ipureintro
    refine (read_whole_store _ _ off0 _ _ _).trans ?_
    repeat (first
      | simp only [load_held, load_stored]
      | delta body_first.sl.r_4
      | delta body_first.sl.r_3
      | delta body_first.sl.r_2
      | delta body_first.sl.r_1
      | delta body_first.sl.r
      | delta body_first.sl.v54
      | delta body_first.sl.v64
      | delta body_first.sl.v72
      | delta body_first.sl.v81
      | delta body_first.sl.v82
      | delta body_first.sl.v87
      | delta body_first.sl.H14_2
      | delta body_first.sl.H15_2
      | delta body_first.sl.H16_2
      | delta body_first.sl.H14_1
      | delta body_first.sl.H15_1
      | delta body_first.sl.H16_1)
    rfl
  · iexists _; isplitr
    swap; · iexact H16
    ipureintro
    refine (read_whole_store _ _ off0 _ _ _).trans ?_
    repeat (first
      | simp only [load_held, load_stored]
      | delta body_first.sl.r_4
      | delta body_first.sl.r_3
      | delta body_first.sl.r_2
      | delta body_first.sl.r_1
      | delta body_first.sl.r
      | delta body_first.sl.v54
      | delta body_first.sl.v64
      | delta body_first.sl.v72
      | delta body_first.sl.v81
      | delta body_first.sl.v82
      | delta body_first.sl.v87
      | delta body_first.sl.H14_2
      | delta body_first.sl.H15_2
      | delta body_first.sl.H16_2
      | delta body_first.sl.H14_1
      | delta body_first.sl.H15_1
      | delta body_first.sl.H16_1)
    rfl

set_option maxHeartbeats 1600000 in
/-- The body at a later point: one step from the state the scratch holds. -/
theorem body_next (c : Dev nD) (E : Set ℕ) (i : grid1.Coords) (arg1 : Memref sig .tc .vmem S4096x64 .bf16) (harg1 : arg1.IsWhole) (arg2 : Memref sig .tc .vmem S1x4096 .i32) (harg2 : arg2.IsWhole) (arg3 : Memref sig .tc .vmem S64x64 .bf16) (harg3 : arg3.IsWhole) (arg4 : Memref sig .tc .vmem S1x64 .f32) (harg4 : arg4.IsWhole) (arg5 : Memref sig .tc .vmem S64x64 .bf16) (harg5 : arg5.IsWhole) (arg6 : Memref sig .tc .vmem S1x64 .f32) (harg6 : arg6.IsWhole) (arg7 : Memref sig .tc .vmem S64x64 .bf16) (harg7 : arg7.IsWhole) (arg8 : Memref sig .tc .vmem S1x64 .f32) (harg8 : arg8.IsWhole) (arg9 : Memref sig .tc .vmem S16x64 .bf16) (harg9 : arg9.IsWhole) (arg10 : Memref sig .tc .vmem S16x1 .f32) (harg10 : arg10.IsWhole) (arg11 : Memref sig .tc .vmem S1x4096 .f32) (harg11 : arg11.IsWhole) (arg12 : Memref sig .tc .vmem S16x1 .f32) (harg12 : arg12.IsWhole) (arg13 : Memref sig .tc .vmem S16x1 .f32) (harg13 : arg13.IsWhole) (arg14 : Memref sig .tc .vmem S16x64 .f32) (harg14 : arg14.IsWhole) (arg15 : Memref sig .tc .vmem S16x64 .f32) (harg15 : arg15.IsWhole) (arg16 : Memref sig .tc .vmem S16x1 .f32) (harg16 : arg16.IsWhole) (arg17 : Memref sig .tc .vmem S16x1 .f32) (harg17 : arg17.IsWhole)
    (hc : ¬ isFirst i) (X : Blk F) (s : Carry F) (K : PUnit → sProp 𝕄) :
    iprop(owns (c : Thread nD τ) arg1 fullShare X.x0 ∗ owns (c : Thread nD τ) arg2 fullShare X.x1 ∗ owns (c : Thread nD τ) arg3 fullShare X.x2 ∗ owns (c : Thread nD τ) arg4 fullShare X.x3 ∗ owns (c : Thread nD τ) arg5 fullShare X.x4 ∗ owns (c : Thread nD τ) arg6 fullShare X.x5 ∗ owns (c : Thread nD τ) arg7 fullShare X.x6 ∗ owns (c : Thread nD τ) arg8 fullShare X.x7 ∗ owns (c : Thread nD τ) arg9 fullShare X.x8 ∗ owns (c : Thread nD τ) arg10 fullShare X.x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ owns (c : Thread nD τ) arg15 fullShare s.acc ∗ owns (c : Thread nD τ) arg16 fullShare s.ms ∗ owns (c : Thread nD τ) arg17 fullShare s.ds
        ∗ (iprop(owns (c : Thread nD τ) arg1 fullShare X.x0 ∗ owns (c : Thread nD τ) arg2 fullShare X.x1 ∗ owns (c : Thread nD τ) arg3 fullShare X.x2 ∗ owns (c : Thread nD τ) arg4 fullShare X.x3 ∗ owns (c : Thread nD τ) arg5 fullShare X.x4 ∗ owns (c : Thread nD τ) arg6 fullShare X.x5 ∗ owns (c : Thread nD τ) arg7 fullShare X.x6 ∗ owns (c : Thread nD τ) arg8 fullShare X.x7 ∗ owns (c : Thread nD τ) arg9 fullShare X.x8 ∗ owns (c : Thread nD τ) arg10 fullShare X.x9 ∗ owns (c : Thread nD τ) arg11 fullShare X.lgt ∗ owns (c : Thread nD τ) arg12 fullShare (X.step s).ms ∗ owns (c : Thread nD τ) arg13 fullShare (X.step s).ds ∗ owns (c : Thread nD τ) arg14 fullShare (X.step s).emb ∗ owns (c : Thread nD τ) arg15 fullShare (X.step s).acc ∗ owns (c : Thread nD τ) arg16 fullShare (X.step s).ms ∗ owns (c : Thread nD τ) arg17 fullShare (X.step s).ds) -∗ K ⟨⟩))
      ⊢ wp frame (wpE (defs₀ (F := F)) Variants.none c none) E (cc1__pass1_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc1__pass1_body_eq_skeleton]; unfold cc1__pass1_body_skel
  simp only [k1_part1_eq_skeleton, k1_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%d13, %f13, -, H13⟩, ⟨%f14, %hf14, H14⟩, ⟨%f15, %hf15, H15⟩, ⟨%f16, %hf16, H16⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg15.eq_unread hf14; obtain rfl := harg16.eq_unread hf15; obtain rfl := harg17.eq_unread hf16
  sl_exec (disch := first | sl_exact hc)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr
    swap; · iexact H10
    ipureintro
    refine (read_whole_store _ _ off0 _ _ _).trans ?_
    repeat (first
      | simp only [load_held, load_stored]
      | delta body_next.sl.r_4
      | delta body_next.sl.r_3
      | delta body_next.sl.r_2
      | delta body_next.sl.r_1
      | delta body_next.sl.r
      | delta body_next.sl.v54
      | delta body_next.sl.v64
      | delta body_next.sl.v72
      | delta body_next.sl.v81
      | delta body_next.sl.v82
      | delta body_next.sl.v87
      | delta body_next.sl.H14_1
      | delta body_next.sl.H15_1
      | delta body_next.sl.H16_1)
    rfl
  isplitl [H11]
  · iexists _; isplitr
    swap; · iexact H11
    ipureintro
    refine (read_whole_store _ _ off0 _ _ _).trans ?_
    repeat (first
      | simp only [load_held, load_stored]
      | delta body_next.sl.r_4
      | delta body_next.sl.r_3
      | delta body_next.sl.r_2
      | delta body_next.sl.r_1
      | delta body_next.sl.r
      | delta body_next.sl.v54
      | delta body_next.sl.v64
      | delta body_next.sl.v72
      | delta body_next.sl.v81
      | delta body_next.sl.v82
      | delta body_next.sl.v87
      | delta body_next.sl.H14_1
      | delta body_next.sl.H15_1
      | delta body_next.sl.H16_1)
    rfl
  isplitl [H12]
  · iexists _; isplitr
    swap; · iexact H12
    ipureintro
    refine (read_whole_store _ _ off0 _ _ _).trans ?_
    repeat (first
      | simp only [load_held, load_stored]
      | delta body_next.sl.r_4
      | delta body_next.sl.r_3
      | delta body_next.sl.r_2
      | delta body_next.sl.r_1
      | delta body_next.sl.r
      | delta body_next.sl.v54
      | delta body_next.sl.v64
      | delta body_next.sl.v72
      | delta body_next.sl.v81
      | delta body_next.sl.v82
      | delta body_next.sl.v87
      | delta body_next.sl.H14_1
      | delta body_next.sl.H15_1
      | delta body_next.sl.H16_1)
    rfl
  isplitl [H13]
  · iexists _; isplitr
    swap; · iexact H13
    ipureintro
    refine (read_whole_store _ _ off0 _ _ _).trans ?_
    repeat (first
      | simp only [load_held, load_stored]
      | delta body_next.sl.r_4
      | delta body_next.sl.r_3
      | delta body_next.sl.r_2
      | delta body_next.sl.r_1
      | delta body_next.sl.r
      | delta body_next.sl.v54
      | delta body_next.sl.v64
      | delta body_next.sl.v72
      | delta body_next.sl.v81
      | delta body_next.sl.v82
      | delta body_next.sl.v87
      | delta body_next.sl.H14_1
      | delta body_next.sl.H15_1
      | delta body_next.sl.H16_1)
    rfl
  isplitl [H14]
  · iexists _; isplitr
    swap; · iexact H14
    ipureintro
    refine (read_whole_store _ _ off0 _ _ _).trans ?_
    repeat (first
      | simp only [load_held, load_stored]
      | delta body_next.sl.r_4
      | delta body_next.sl.r_3
      | delta body_next.sl.r_2
      | delta body_next.sl.r_1
      | delta body_next.sl.r
      | delta body_next.sl.v54
      | delta body_next.sl.v64
      | delta body_next.sl.v72
      | delta body_next.sl.v81
      | delta body_next.sl.v82
      | delta body_next.sl.v87
      | delta body_next.sl.H14_1
      | delta body_next.sl.H15_1
      | delta body_next.sl.H16_1)
    rfl
  isplitl [H15]
  · iexists _; isplitr
    swap; · iexact H15
    ipureintro
    refine (read_whole_store _ _ off0 _ _ _).trans ?_
    repeat (first
      | simp only [load_held, load_stored]
      | delta body_next.sl.r_4
      | delta body_next.sl.r_3
      | delta body_next.sl.r_2
      | delta body_next.sl.r_1
      | delta body_next.sl.r
      | delta body_next.sl.v54
      | delta body_next.sl.v64
      | delta body_next.sl.v72
      | delta body_next.sl.v81
      | delta body_next.sl.v82
      | delta body_next.sl.v87
      | delta body_next.sl.H14_1
      | delta body_next.sl.H15_1
      | delta body_next.sl.H16_1)
    rfl
  · iexists _; isplitr
    swap; · iexact H16
    ipureintro
    refine (read_whole_store _ _ off0 _ _ _).trans ?_
    repeat (first
      | simp only [load_held, load_stored]
      | delta body_next.sl.r_4
      | delta body_next.sl.r_3
      | delta body_next.sl.r_2
      | delta body_next.sl.r_1
      | delta body_next.sl.r
      | delta body_next.sl.v54
      | delta body_next.sl.v64
      | delta body_next.sl.v72
      | delta body_next.sl.v81
      | delta body_next.sl.v82
      | delta body_next.sl.v87
      | delta body_next.sl.H14_1
      | delta body_next.sl.H15_1
      | delta body_next.sl.H16_1)
    rfl

end Cert.KernelIdeal.Seg

end
-- ==== Proof.KernelIdeal.Region1.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.KernelIdeal.Body1
public import Idealize.ShloMosaic.Lib.Pipeline.FrameBody
public import Idealize.ShloMosaic.Lib.Pipeline.Value
public import Idealize.ShloMosaic.Lib.Tactic

@[expose] public section

set_option maxRecDepth 16384

/-! The middle launch as a segment: its proof data over any entry contents `V`, with the carried state in the invariant, and the body at every point. -/

noncomputable section

namespace Cert.KernelIdeal.Seg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input blocks of point `t`. -/
def blkAt (c : Dev nD) (t : Fin cfg1.N) : Blk F :=
  ⟨iblk1 V c 0 t, iblk1 V c 1 t, iblk1 V c 2 t, iblk1 V c 3 t, iblk1 V c 4 t, iblk1 V c 5 t, iblk1 V c 6 t, iblk1 V c 7 t, iblk1 V c 8 t, iblk1 V c 9 t⟩

/-- The carried state after point `n`. -/
def stAt (c : Dev nD) : (n : ℕ) → n < cfg1.N → Carry F
  | 0, h => (blkAt V c ⟨0, h⟩).step Carry.init
  | n + 1, h => (blkAt V c ⟨n + 1, h⟩).step (stAt c n (Nat.lt_of_succ_lt h))

/-- The carried state after the first point. -/
theorem stAt_first (c : Dev nD) (t : Fin cfg1.N) (h : t.val = 0) : stAt V c t.val t.isLt = (blkAt V c t).step Carry.init := by
  obtain ⟨n, hn⟩ := t
  cases n with
  | zero => rfl
  | succ n => exact absurd h (Nat.succ_ne_zero n)

/-- The carried state after a later point. -/
theorem stAt_next (c : Dev nD) (t : Fin cfg1.N) (h : t.val ≠ 0) :
    stAt V c t.val t.isLt = (blkAt V c t).step (stAt V c (t.val - 1) (Nat.lt_of_le_of_lt (Nat.sub_le _ _) t.isLt)) := by
  obtain ⟨n, hn⟩ := t
  cases n with
  | zero => exact absurd rfl h
  | succ n => rfl

/-- The three scratch buffers. -/
abbrev scr0 : Memref sig .tc .vmem S16x64 .f32 := Memref.whole cc1_scratch0
abbrev scr1 : Memref sig .tc .vmem S16x1 .f32 := Memref.whole cc1_scratch1
abbrev scr2 : Memref sig .tc .vmem S16x1 .f32 := Memref.whole cc1_scratch2

/-- The scoped buffers that are neither staging nor scratch of this launch, at anything. -/
abbrev others (c : Dev nD) : sProp 𝕄 := Pipeline.scopedRestBut (Ix := Unit) (Name := ℕ) (U := UR sig nD τ) (Lvl := ℕ) spec1 c [cc1_scratch0, cc1_scratch1, cc1_scratch2]

/-- The scratch buffers at a state, beside what else the invariant holds. -/
abbrev carried (c : Dev nD) (s : Carry F) : sProp 𝕄 :=
  iprop((owns (c : Thread nD τ) scr0 fullShare s.acc ∗ owns (c : Thread nD τ) scr1 fullShare s.ms ∗ owns (c : Thread nD τ) scr2 fullShare s.ds) ∗ others c ∗ ∃ r, prngReg c r)

/-- The class invariant with the scratch buffers opened. -/
theorem PhiA1_eq (c : Dev nD) : (Pipeline.ΦA spec1 c : sProp 𝕄)
    = iprop((((∃ d, owns (c : Thread nD τ) scr0 fullShare d) ∗ (∃ d, owns (c : Thread nD τ) scr1 fullShare d) ∗ (∃ d, owns (c : Thread nD τ) scr2 fullShare d)) ∗ others c) ∗ ∃ r, prngReg c r) := by
  unfold Pipeline.ΦA
  rw [Pipeline.scopedRest_split_of_list spec1 c [cc1_scratch0, cc1_scratch1, cc1_scratch2] (by decide) (by decide)]
  simp only [scr0, scr1, scr2, owns_whole]
  rfl

/-- The invariant before point `n`: the scratch at anything before the first, at the state of the point before afterwards. -/
def PhiS (c : Dev nD) : (n : ℕ) → n ≤ cfg1.N → sProp 𝕄
  | 0, _ => Pipeline.ΦA spec1 c
  | n + 1, hn => carried c (stAt V c n hn)

theorem PhiS_zero (c : Dev nD) (n : ℕ) (h : n ≤ cfg1.N) (hz : n = 0) : PhiS V c n h = Pipeline.ΦA spec1 c := by subst hz; rfl
theorem PhiS_succ (c : Dev nD) (n : ℕ) (hn : n < cfg1.N) : PhiS V c (n + 1) hn = carried c (stAt V c n hn) := rfl
theorem PhiS_pos (c : Dev nD) (n : ℕ) (h : n ≤ cfg1.N) (hz : n ≠ 0) : PhiS V c n h = carried c (stAt V c (n - 1) (by omega)) := by
  cases n with
  | zero => exact absurd rfl hz
  | succ n => rfl

/-- The launch's proof data. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => (blkAt V c t).lgt
    | ⟨11, _⟩ => (stAt V c t.val t.isLt).ms
    | ⟨12, _⟩ => (stAt V c t.val t.isLt).ds
    | ⟨13, _⟩ => (stAt V c t.val t.isLt).emb
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) : (dat1 V c).Φ t.castSucc = PhiS V c t.val (Nat.le_of_lt t.isLt) := by
  dsimp only [dat1]; exact Pipeline.Dat.Φ_castSucc (PhiS V c) t

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = (blkAt V c t).lgt := by dsimp only [dat1]
theorem after1_11 (c : Dev nD) (t : Fin cfg1.N) : (dat1 V c).after 11 t = (stAt V c t.val t.isLt).ms := by dsimp only [dat1]
theorem after1_12 (c : Dev nD) (t : Fin cfg1.N) : (dat1 V c).after 12 t = (stAt V c t.val t.isLt).ds := by dsimp only [dat1]
theorem after1_13 (c : Dev nD) (t : Fin cfg1.N) : (dat1 V c).after 13 t = (stAt V c t.val t.isLt).emb := by dsimp only [dat1]

/-- An input window's buffer holds its block at every point. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
/-- An input window's buffer holds its block at every point. -/
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
/-- An input window's buffer holds its block at every point. -/
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
/-- An input window's buffer holds its block at every point. -/
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
/-- An input window's buffer holds its block at every point. -/
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
/-- An input window's buffer holds its block at every point. -/
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)
/-- An input window's buffer holds its block at every point. -/
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; unfold Dat.blockOf iblk1; rw [A_eq1]; try rfl) t d).trans
    (by unfold Dat.fetched Dat.blockOf iblk1; rw [A_eq1]; try rfl)
/-- An input window's buffer holds its block at every point. -/
theorem before1_7 (c : Dev nD) (t : Fin cfg1.N) (d) : (dat1 V c).before 7 t d = iblk1 V c 7 t :=
  ((dat1 V c).before_in_eq_fetched 7 rfl (fun _ => rfl) (fun _ _ _ => rfl) (fun t => by rw [after1_7]; unfold Dat.blockOf iblk1; rw [A_eq1]; try rfl) t d).trans
    (by unfold Dat.fetched Dat.blockOf iblk1; rw [A_eq1]; try rfl)
/-- An input window's buffer holds its block at every point. -/
theorem before1_8 (c : Dev nD) (t : Fin cfg1.N) (d) : (dat1 V c).before 8 t d = iblk1 V c 8 t :=
  ((dat1 V c).before_in_eq_fetched 8 rfl (fun _ => rfl) (fun _ _ _ => rfl) (fun t => by rw [after1_8]; unfold Dat.blockOf iblk1; rw [A_eq1]; try rfl) t d).trans
    (by unfold Dat.fetched Dat.blockOf iblk1; rw [A_eq1]; try rfl)
/-- An input window's buffer holds its block at every point. -/
theorem before1_9 (c : Dev nD) (t : Fin cfg1.N) (d) : (dat1 V c).before 9 t d = iblk1 V c 9 t :=
  ((dat1 V c).before_in_eq_fetched 9 rfl (fun _ => rfl) (fun _ _ _ => rfl) (fun t => by rw [after1_9]; unfold Dat.blockOf iblk1; rw [A_eq1]; try rfl) t d).trans
    (by unfold Dat.fetched Dat.blockOf iblk1; rw [A_eq1]; try rfl)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d)))
/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t))

set_option maxHeartbeats 1000000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9]
  rw [show (dat1 V c).owesAt () t.succ = (dat1 V c).owesAt () t.castSucc from rfl,
    after1_0, after1_1, after1_2, after1_3, after1_4, after1_5, after1_6, after1_7, after1_8, after1_9, after1_10, after1_11, after1_12, after1_13]
  rw [show (dat1 V c).Φ t.succ = PhiS V c (t.val + 1) t.isLt from rfl, PhiS_succ]
  by_cases hz : t.val = 0
  · rw [PhiS_castSucc V c t, PhiS_zero V c _ _ hz, PhiA1_eq, stAt_first V c t hz]
    iintro ⟨⟨⟨⟨⟨%e0, HS0⟩, ⟨%e1, HS1⟩, ⟨%e2, HS2⟩⟩, Hb⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (body_first c Set.univ (grid1.coords t) _ _ _ _ _ _ _ _ _ _ _ _ _ _ _ _ _ _ _ _ _ _ _ _ _ _ _ _ _ _ _ _ _ _ ((isFirst_iff t).mpr hz) (blkAt V c t) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [HS0]; · iexists _; iexact HS0
    isplitl [HS1]; · iexists _; iexact HS1
    isplitl [HS2]; · iexists _; iexact HS2
    iintro ⟨H0, H1, H2, H3, H4, H5, H6, H7, H8, H9, H10, H11, H12, H13, HS0, HS1, HS2⟩
    isplitl [HS0 HS1 HS2 Hb Hg]
    · isplitl [HS0 HS1 HS2]
      · isplitl [HS0]; · iexact HS0
        isplitl [HS1]; · iexact HS1
        iexact HS2
      isplitl [Hb]; · iexact Hb
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

  · rw [PhiS_castSucc V c t, PhiS_pos V c _ _ hz, stAt_next V c t hz]
    iintro ⟨⟨⟨HS0, HS1, HS2⟩, Hb, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply (body_next c Set.univ (grid1.coords t) _ _ _ _ _ _ _ _ _ _ _ _ _ _ _ _ _ _ _ _ _ _ _ _ _ _ _ _ _ _ _ _ _ _ (fun h => hz ((isFirst_iff t).mp h)) (blkAt V c t) (stAt V c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    isplitl [H13]; · iexists _; iexact H13
    isplitl [HS0]; · iexact HS0
    isplitl [HS1]; · iexact HS1
    isplitl [HS2]; · iexact HS2
    iintro ⟨H0, H1, H2, H3, H4, H5, H6, H7, H8, H9, H10, H11, H12, H13, HS0, HS1, HS2⟩
    isplitl [HS0 HS1 HS2 Hb Hg]
    · isplitl [HS0 HS1 HS2]
      · isplitl [HS0]; · iexact HS0
        isplitl [HS1]; · iexact HS1
        iexact HS2
      isplitl [Hb]; · iexact Hb
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- The body table's row is the body at the point's buffers. -/
theorem defs₀_row1 (t : Fin cfg1.N) :
    defs₀ (F := F) .tc cfg1.body (cfg1.bodyArgs t (cfg1.slots t)) = bodyAt1 t := by
  unfold defs₀; rw [Defs.onTc_tc]

/-- The body obligation at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- The invariant before the first point is the class's. -/
theorem Phi1_first (c : Dev nD) : (dat1 V c).Φ 0 = Pipeline.ΦA spec1 c := by
  rw [show (dat1 V c).Φ 0 = PhiS V c 0 (Nat.zero_le _) from rfl, PhiS_zero V c 0 _ rfl]

/-- The invariant after the last point gives the class's back. -/
theorem Phi1_last (c : Dev nD) : (dat1 V c).Φ (Fin.last cfg1.N) ⊢ Pipeline.ΦA spec1 c := by
  have hN : cfg1.N = 8 := N_1
  rw [show (dat1 V c).Φ (Fin.last cfg1.N) = PhiS V c (Fin.last cfg1.N).val (Nat.le_of_lt_succ (Fin.last cfg1.N).isLt) from rfl,
    PhiS_pos V c _ _ (by rw [Fin.val_last]; omega), PhiA1_eq]
  iintro ⟨⟨HS0, HS1, HS2⟩, Hb, Hg⟩
  isplitl [HS0 HS1 HS2 Hb]
  · isplitl [HS0 HS1 HS2]
    · isplitl [HS0]
      · iexists _; iexact HS0
      isplitl [HS1]
      · iexists _; iexact HS1
      iexists _; iexact HS2
    iexact Hb
  iexact Hg

end Cert.KernelIdeal.Seg

end
-- ==== Proof.KernelIdeal.Region2.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Tactic

@[expose] public section

set_option maxRecDepth 16384

/-! The last launch as a segment: its proof data over any entry contents `V`, and the body at every point. -/

noncomputable section

namespace Cert.KernelIdeal.Seg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's buffer holds its block at every point. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- An input window's buffer holds its block at every point. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- An input window's buffer holds its block at every point. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
/-- An input window's buffer holds its block at every point. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- The whole of a buffer of this shape. -/
abbrev r2_0 : Rect S1x16384 := Rect.unit (s := S1x16384) ![0, 0] S1x16384.size inb_S1x16384_S1x16384_0_0
/-- The whole of a buffer of this shape. -/
abbrev r2_1 : Rect S16x1 := Rect.unit (s := S16x1) ![0, 0] S16x1.size inb_S16x1_S16x1_0_0

/-- What the body leaves in this output window, from the input blocks. -/
def out2_4 (x0 : Vec F S1x16384 .f32) (x1 : Vec F S1x16384 .i32) (x2 : Vec F S16x1 .f32) (x3 : Vec F S16x1 .f32) : Vec F S1x16384 .f32 :=
  View.canon [⟨r2_0, k2_pay1 (View.ld x1 r2_0) (View.ld x2 r2_1) (View.ld x3 r2_1) (View.ld x0 r2_0)⟩]

/-- The one store covers the buffer. -/
theorem cover2_4 (p0 : Vec F S1x16384 .f32) (y : S1x16384.Idx) :
    ∃ pc ∈ ([⟨r2_0, p0⟩] : List (View.Piece (Elt F) S1x16384 .f32)), y ∈ pc.1.set :=
  View.cover_of_tiled [⟨r2_0, p0⟩] S1x16384.size (by rfl) y

set_option maxHeartbeats 1000000 in
/-- The body on whole buffers: the inputs stay, each output holds its payload of the inputs. -/
theorem sound_kernel2 (c : Dev nD) (E : Set ℕ) (i : grid2.Coords) (arg1 : Memref sig .tc .vmem S1x16384 .f32) (harg1 : arg1.IsWhole) (arg2 : Memref sig .tc .vmem S1x16384 .i32) (harg2 : arg2.IsWhole) (arg3 : Memref sig .tc .vmem S16x1 .f32) (harg3 : arg3.IsWhole) (arg4 : Memref sig .tc .vmem S16x1 .f32) (harg4 : arg4.IsWhole) (arg5 : Memref sig .tc .vmem S1x16384 .f32) (harg5 : arg5.IsWhole)
    (x0 : Vec F S1x16384 .f32) (x1 : Vec F S1x16384 .i32) (x2 : Vec F S16x1 .f32) (x3 : Vec F S16x1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__pass2_body i arg1 harg1 arg2 harg2 arg3 harg3 arg4 harg4 arg5 harg5) K := by
  simp only [cc2__pass2_body_eq_skeleton]; unfold cc2__pass2_body_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-- The region's proof data: inputs keep their blocks, outputs hold the body's payloads. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The arrays are the entry contents. -/
theorem A_eq2 (c : Dev nD) (w : Fin cfg2.W) : (dat2 V c).A w = V c (Pipeline.arrRef spec2 w) := by
  dsimp only [dat2]

/-- What the body leaves in this window. -/
theorem after2_0 (c : Dev nD) (t : Fin cfg2.N) : (dat2 V c).after 0 t = iblk2 V c 0 t := by dsimp only [dat2]
/-- What the body leaves in this window. -/
theorem after2_1 (c : Dev nD) (t : Fin cfg2.N) : (dat2 V c).after 1 t = iblk2 V c 1 t := by dsimp only [dat2]
/-- What the body leaves in this window. -/
theorem after2_2 (c : Dev nD) (t : Fin cfg2.N) : (dat2 V c).after 2 t = iblk2 V c 2 t := by dsimp only [dat2]
/-- What the body leaves in this window. -/
theorem after2_3 (c : Dev nD) (t : Fin cfg2.N) : (dat2 V c).after 3 t = iblk2 V c 3 t := by dsimp only [dat2]
/-- What the body leaves in this window. -/
theorem after2_4 (c : Dev nD) (t : Fin cfg2.N) : (dat2 V c).after 4 t = out2_4 (iblk2 V c 0 t) (iblk2 V c 1 t) (iblk2 V c 2 t) (iblk2 V c 3 t) := by dsimp only [dat2]

/-- An input window's buffer holds its block at every point. -/
theorem before2_0 (c : Dev nD) (t : Fin cfg2.N) (d) : (dat2 V c).before 0 t d = iblk2 V c 0 t :=
  before2_0_of V (dat2 V c) (A_eq2 V c 0) (after2_0 V c) t d
/-- An input window's buffer holds its block at every point. -/
theorem before2_1 (c : Dev nD) (t : Fin cfg2.N) (d) : (dat2 V c).before 1 t d = iblk2 V c 1 t :=
  before2_1_of V (dat2 V c) (A_eq2 V c 1) (after2_1 V c) t d
/-- An input window's buffer holds its block at every point. -/
theorem before2_2 (c : Dev nD) (t : Fin cfg2.N) (d) : (dat2 V c).before 2 t d = iblk2 V c 2 t :=
  before2_2_of V (dat2 V c) (A_eq2 V c 2) (after2_2 V c) t d
/-- An input window's buffer holds its block at every point. -/
theorem before2_3 (c : Dev nD) (t : Fin cfg2.N) (d) : (dat2 V c).before 3 t d = iblk2 V c 3 t :=
  before2_3_of V (dat2 V c) (A_eq2 V c 3) (after2_3 V c) t d

/-- What the body is called with at point `t`. -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- What the body returns at point `t`. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body table's row is the body at the point's buffers. -/
theorem defs₀_row2 (t : Fin cfg2.N) :
    defs₀ (F := F) .tc cfg2.body (cfg2.bodyArgs t (cfg2.slots t)) = bodyAt2 t := by
  unfold defs₀; rw [Defs.onTc_tc]

/-- The body obligation at every point. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

/-- The output is the weights payload of the blocks. -/
theorem out2_4_eq (x0 : Vec F S1x16384 .f32) (x1 : Vec F S1x16384 .i32) (x2 : Vec F S16x1 .f32) (x3 : Vec F S16x1 .f32) :
    out2_4 x0 x1 x2 x3 = k2_pay1 x1 x2 x3 x0 := by
  have z : (![0, 0] : Fin 2 → Nat) = fun _ => 0 := by funext a; fin_cases a <;> rfl
  unfold out2_4
  rw [View.canon_unit_zero z, View.ld_unit_zero z, View.ld_unit_zero z, View.ld_unit_zero z, View.ld_unit_zero z]

end Cert.KernelIdeal.Seg

end
-- ==== Proof.KernelIdeal.Run.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Regions
public import proofs.«01_k».proof.Proof.KernelIdeal.Region0
public import proofs.«01_k».proof.Proof.KernelIdeal.Region1
public import proofs.«01_k».proof.Proof.KernelIdeal.Region2
public import Idealize.ShloMosaic.Lib.Pipeline.Regions
public import Idealize.ShloMosaic.Lib.Pipeline.RegionsLoop
public import Idealize.ShloMosaic.Lib.Pipeline.FrameSuffix
public import Idealize.ShloMosaic.Lib.Pipeline.FrameBody
public import Idealize.ShloMosaic.Lib.Pipeline.Value
public import Idealize.ShloMosaic.Lib.Tactic

@[expose] public section

set_option maxRecDepth 16384

/-! The whole program as five segments: a host stretch, the three launches, a host stretch. The contents of the buffers at each boundary, and the run. -/

noncomputable section

namespace Cert.KernelIdeal.Seg

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument arrays. -/
abbrev argRefs : List (Ref sig .tc) := [main_arg0, main_arg1, main_arg2, main_arg3, main_arg4, main_arg5, main_arg6, main_arg7, main_arg8, main_arg9, main_arg10]

/-! ## The contents at each boundary -/

/-- At launch. -/
abbrev W0 : Dev nD → Valuation τ sig (Elt F) := fun c b => m ((c : Dev nD), b)
/-- After the first host stretch. -/
abbrev W1 : Dev nD → Valuation τ sig (Elt F) := fun c => StableHlo.after hostOps0 (W0 m c)
/-- The same at the core's references: what launch 0 is entered from. -/
abbrev E1 : (c : Dev nD) → (b : Ref sig .tc) → Buf (Elt F) ((c : Thread nD τ).loc b) := fun c b => W1 m c b
/-- After launch 0: its arrays at what it leaves, the other buffers as before. -/
def W2 (c : Dev nD) : Valuation τ sig (Elt F) :=
  Pipeline.withArrays spec0 c (W1 m c) fun w => (dat0 (E1 m) c).arrAt w cfg0.N
theorem W2_arr (c : Dev nD) (w : Fin cfg0.W) :
    W2 m c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- A buffer that is no output of launch 0 keeps its contents across it. -/
theorem W2_of (c : Dev nD) (r : Ref sig .tc) (h : ∀ w : Fin cfg0.W, Pipeline.arrRef spec0 w = r → (cfg0.win w).isOut = false) :
    W2 m c (Proc.devRef .tc r) = W1 m c (Proc.devRef .tc r) := by
  by_cases hw : ∃ w : Fin cfg0.W, Pipeline.arrRef spec0 w = r
  · obtain ⟨w, rfl⟩ := hw
    exact (W2_arr m c w).trans (((dat0 (E1 m) c).arrAt_in w (h w rfl) _).trans (A_eq0 (E1 m) c w))
  · exact W2_of_ne m c r fun w e => hw ⟨w, e⟩
/-- No argument is an output of launch 0. -/
theorem args_in0 : ∀ a ∈ argRefs, ∀ w : Fin cfg0.W, Pipeline.arrRef spec0 w = a → (cfg0.win w).isOut = false :=
  ListAll.forall_mem_of_all_decide (by decide +kernel)
theorem exit_arr0 (c : Dev nD) (w : Fin cfg0.W) : (dat0 (E1 m) c).arrAt w cfg0.N = W2 m c (Proc.devRef .tc (Pipeline.arrRef spec0 w)) :=
  (W2_arr m c w).symm
theorem exit_rest0 (c : Dev nD) : ∀ b : Ref sig .tc, b ∉ Finset.univ.image (Pipeline.arrRef spec0) → W2 m c (Proc.devRef .tc b) = E1 m c b :=
  fun b hb => W2_of_ne m c b fun w e => hb (Finset.mem_image.mpr ⟨w, Finset.mem_univ _, e⟩)
/-- The same at the core's references: what launch 1 is entered from. -/
abbrev E2 : (c : Dev nD) → (b : Ref sig .tc) → Buf (Elt F) ((c : Thread nD τ).loc b) := fun c b => W2 m c b
/-- After launch 1: its arrays at what it leaves, the other buffers as before. -/
def W3 (c : Dev nD) : Valuation τ sig (Elt F) :=
  Pipeline.withArrays spec1 c (W2 m c) fun w => (dat1 (E2 m) c).arrAt w cfg1.N
theorem W3_arr (c : Dev nD) (w : Fin cfg1.W) :
    W3 m c (Proc.devRef .tc (Pipeline.arrRef spec1 w)) = (dat1 (E2 m) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m c (Proc.devRef .tc b) = W2 m c (Proc.devRef .tc b) := by
  unfold W3; exact Pipeline.withArrays_of_ne spec1 c _ _ b hb
/-- A buffer that is no output of launch 1 keeps its contents across it. -/
theorem W3_of (c : Dev nD) (r : Ref sig .tc) (h : ∀ w : Fin cfg1.W, Pipeline.arrRef spec1 w = r → (cfg1.win w).isOut = false) :
    W3 m c (Proc.devRef .tc r) = W2 m c (Proc.devRef .tc r) := by
  by_cases hw : ∃ w : Fin cfg1.W, Pipeline.arrRef spec1 w = r
  · obtain ⟨w, rfl⟩ := hw
    exact (W3_arr m c w).trans (((dat1 (E2 m) c).arrAt_in w (h w rfl) _).trans (A_eq1 (E2 m) c w))
  · exact W3_of_ne m c r fun w e => hw ⟨w, e⟩
/-- No argument is an output of launch 1. -/
theorem args_in1 : ∀ a ∈ argRefs, ∀ w : Fin cfg1.W, Pipeline.arrRef spec1 w = a → (cfg1.win w).isOut = false :=
  ListAll.forall_mem_of_all_decide (by decide +kernel)
theorem exit_arr1 (c : Dev nD) (w : Fin cfg1.W) : (dat1 (E2 m) c).arrAt w cfg1.N = W3 m c (Proc.devRef .tc (Pipeline.arrRef spec1 w)) :=
  (W3_arr m c w).symm
theorem exit_rest1 (c : Dev nD) : ∀ b : Ref sig .tc, b ∉ Finset.univ.image (Pipeline.arrRef spec1) → W3 m c (Proc.devRef .tc b) = E2 m c b :=
  fun b hb => W3_of_ne m c b fun w e => hb (Finset.mem_image.mpr ⟨w, Finset.mem_univ _, e⟩)
/-- The same at the core's references: what launch 2 is entered from. -/
abbrev E3 : (c : Dev nD) → (b : Ref sig .tc) → Buf (Elt F) ((c : Thread nD τ).loc b) := fun c b => W3 m c b
/-- After launch 2: its arrays at what it leaves, the other buffers as before. -/
def W4 (c : Dev nD) : Valuation τ sig (Elt F) :=
  Pipeline.withArrays spec2 c (W3 m c) fun w => (dat2 (E3 m) c).arrAt w cfg2.N
theorem W4_arr (c : Dev nD) (w : Fin cfg2.W) :
    W4 m c (Proc.devRef .tc (Pipeline.arrRef spec2 w)) = (dat2 (E3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
/-- A buffer that is no output of launch 2 keeps its contents across it. -/
theorem W4_of (c : Dev nD) (r : Ref sig .tc) (h : ∀ w : Fin cfg2.W, Pipeline.arrRef spec2 w = r → (cfg2.win w).isOut = false) :
    W4 m c (Proc.devRef .tc r) = W3 m c (Proc.devRef .tc r) := by
  by_cases hw : ∃ w : Fin cfg2.W, Pipeline.arrRef spec2 w = r
  · obtain ⟨w, rfl⟩ := hw
    exact (W4_arr m c w).trans (((dat2 (E3 m) c).arrAt_in w (h w rfl) _).trans (A_eq2 (E3 m) c w))
  · exact W4_of_ne m c r fun w e => hw ⟨w, e⟩
/-- No argument is an output of launch 2. -/
theorem args_in2 : ∀ a ∈ argRefs, ∀ w : Fin cfg2.W, Pipeline.arrRef spec2 w = a → (cfg2.win w).isOut = false :=
  ListAll.forall_mem_of_all_decide (by decide +kernel)
theorem exit_arr2 (c : Dev nD) (w : Fin cfg2.W) : (dat2 (E3 m) c).arrAt w cfg2.N = W4 m c (Proc.devRef .tc (Pipeline.arrRef spec2 w)) :=
  (W4_arr m c w).symm
theorem exit_rest2 (c : Dev nD) : ∀ b : Ref sig .tc, b ∉ Finset.univ.image (Pipeline.arrRef spec2) → W4 m c (Proc.devRef .tc b) = E3 m c b :=
  fun b hb => W4_of_ne m c b fun w e => hb (Finset.mem_image.mpr ⟨w, Finset.mem_univ _, e⟩)
/-- After the last host stretch. -/
abbrev W5 : Dev nD → Valuation τ sig (Elt F) := fun c => StableHlo.after hostOps3 (W4 m c)
theorem args_host0 : ∀ a ∈ argRefs, a ∉ hostOps0_W := ListAll.forall_mem_of_all_decide (by decide +kernel)
theorem args_host3 : ∀ a ∈ argRefs, a ∉ hostOps3_W := ListAll.forall_mem_of_all_decide (by decide +kernel)
/-- The arguments end as launched. -/
theorem W5_args (c : Dev nD) : ∀ a ∈ argRefs, W5 m c (Proc.devRef .tc a) = m ((c : Thread nD τ).loc a) := fun a ha =>
  (StableHlo.after_of_writes_sub hostOps3 _ hostOps3_writes (args_host3 a ha)).trans
    ((W4_of m c a (args_in2 a ha)).trans ((W3_of m c a (args_in1 a ha)).trans ((W2_of m c a (args_in0 a ha)).trans
      (StableHlo.after_of_writes_sub hostOps0 _ hostOps0_writes (args_host0 a ha)))))

/-! ## The thread state between segments -/

/-- Every launch's proof data, each at its own entry contents. -/
def pdats : (p : Fin 3) → (c : Dev nD) → Dat τ (Elt F) Unit ℕ (UR sig nD τ) ℕ (Pipeline.pin (pcfgs (F := F)) adm p) c
  | ⟨0, _⟩ => fun c => dat0 (E1 m) c
  | ⟨1, _⟩ => fun c => dat1 (E2 m) c
  | ⟨2, _⟩ => fun c => dat2 (E3 m) c
/-- Nothing loops. -/
abbrev noVariants : Variants := Variants.none
/-- No core owes another anything. -/
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVariants L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- A buffer of the program's own is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state: every buffer at the last boundary's contents. -/
abbrev Tₙ (c : Dev nD) : sProp 𝕄 := iprop(StableHlo.held (c : Thread nD τ) (Pipeline.ucRefs τ sig) (W5 m c) ∗ ∃ r, prngReg c r)

/-! ## The launches as segments -/

set_option backward.isDefEq.respectTransparency.types false in
/-- Launch 0 over the thread state, entered from `W1` and left at `W2`. -/
def reg0 : Pipeline.RegionSeg (pcfgs (F := F)) adm (pdats m) () defs₀ noVariants L lv 0 where
  win := launch0.win.to₀
  block_pos := launch0.block_pos
  stage_whole := launch0.stage_whole
  K := PEmpty
  osem k := k.elim
  ho := Pipeline.OwnSemFacts.none _
  hbody c := (body_obligation0 (E1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E1 m c) (A_eq0 (E1 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E1 m c) (fun b => W2 m c b) ((pdats m 0 c).arrAt · cfg0.N) (exit_arr0 m c) (exit_rest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 1 over the thread state, entered from `W2` and left at `W3`. -/
def reg1 : Pipeline.RegionSeg (pcfgs (F := F)) adm (pdats m) () defs₀ noVariants L lv 1 where
  win := launch1.win.to₀
  block_pos := launch1.block_pos
  stage_whole := launch1.stage_whole
  K := PEmpty
  osem k := k.elim
  ho := Pipeline.OwnSemFacts.none _
  hbody c := (body_obligation1 (E2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (E2 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E2 m c) (A_eq1 (E2 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from Phi1_first (E2 m) c]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from Phi1_last (E2 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E2 m c) (fun b => W3 m c b) ((pdats m 1 c).arrAt · cfg1.N) (exit_arr1 m c) (exit_rest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Launch 2 over the thread state, entered from `W3` and left at `W4`. -/
def reg2 : Pipeline.RegionSeg (pcfgs (F := F)) adm (pdats m) () defs₀ noVariants L lv 2 where
  win := launch2.win.to₀
  block_pos := launch2.block_pos
  stage_whole := launch2.stage_whole
  K := PEmpty
  osem k := k.elim
  ho := Pipeline.OwnSemFacts.none _
  hbody c := (body_obligation2 (E3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec2 c (E3 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E3 m c) (A_eq2 (E3 m) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E3 m c) (fun b => W4 m c b) ((pdats m 2 c).arrAt · cfg2.N) (exit_arr2 m c) (exit_rest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run -/

/-- The program's segments in order. -/
abbrev parts : List (Pipeline.Seg (pcfgs (F := F)) adm (pdats m) () defs₀ noVariants L lv) :=
  [ .host (hseg hostOps0 hostOps0_sub hostOps0_fresh (W0 m)),
    .region (reg0 m),
    .region (reg1 m),
    .region (reg2 m),
    .host (hseg hostOps3 hostOps3_sub hostOps3_fresh (W4 m)) ]
/-- The program is the run of its segments. -/
theorem main_run (c : Dev nD) : main (F := F) c = Pipeline.Seg.run (parts m) := (main_chain c).trans (by chain_rfl)

set_option backward.isDefEq.respectTransparency.types false in
/-- From any memory with the semaphores at zero, every execution of the program terminates without a fault; at the end every
    buffer of the program's own holds the last boundary's contents, and the semaphores are at zero. -/
theorem run_all : θ_run defs (onTc (τ := τ) (main (F := F))) ⟨m, fun _ => 0, ρ⟩ (fun r =>
      (∀ c : Dev nD, ∀ b ∈ Pipeline.ucRefs τ sig, r.2.mem (((c : Thread nD τ)).1, b) = W5 m c b) ∧ r.2.sem = fun _ => 0) :=
  Pipeline.θ_run_regions_kit_sems (pcfgs (F := F)) adm (pdats m) () cellOf_inj emb₁ defs₀ noVariants L lv m ρ main (parts m)
    (fun c Q => by rw [main_run m c])
    (by simp only [parts, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h hz => ⟨fun c => h c, funext fun g => hz g (.inr (regions_no_unscoped g.2))⟩)

/-- The arguments end as launched, and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run defs _ _).mono (fun _ h => ⟨fun c =>
    ⟨(h.1 c _ (mem_uc main_arg0 (by decide))).trans (W5_args m c main_arg0 (by decide)),
     (h.1 c _ (mem_uc main_arg1 (by decide))).trans (W5_args m c main_arg1 (by decide)),
     (h.1 c _ (mem_uc main_arg2 (by decide))).trans (W5_args m c main_arg2 (by decide)),
     (h.1 c _ (mem_uc main_arg3 (by decide))).trans (W5_args m c main_arg3 (by decide)),
     (h.1 c _ (mem_uc main_arg4 (by decide))).trans (W5_args m c main_arg4 (by decide)),
     (h.1 c _ (mem_uc main_arg5 (by decide))).trans (W5_args m c main_arg5 (by decide)),
     (h.1 c _ (mem_uc main_arg6 (by decide))).trans (W5_args m c main_arg6 (by decide)),
     (h.1 c _ (mem_uc main_arg7 (by decide))).trans (W5_args m c main_arg7 (by decide)),
     (h.1 c _ (mem_uc main_arg8 (by decide))).trans (W5_args m c main_arg8 (by decide)),
     (h.1 c _ (mem_uc main_arg9 (by decide))).trans (W5_args m c main_arg9 (by decide)),
     (h.1 c _ (mem_uc main_arg10 (by decide))).trans (W5_args m c main_arg10 (by decide))⟩, h.2⟩) (run_all m ρ)

end Cert.KernelIdeal.Seg

end
-- ==== Proof.Value.Real.lean ====
module

public import Idealize.ShloMosaic.PureOps.Ideal
public import Idealize.ShloMosaic.Lib.IdealHost
public import Mathlib.Algebra.BigOperators.Fin
public import Mathlib.Algebra.BigOperators.Intervals

@[expose] public section

/-! The mathematics of the claim over the real numbers: the network as real functions, the softmax over the rows of
one segment and its independence of the shift, sums over whole blocks of rows; and how the extended reals that the two
programs compute with read where every operand is real. -/

noncomputable section

namespace Cert.SegMath

open Idealize.ShloMosaic
open scoped BigOperators

/-! ## Extended reals that are real -/

/-- A sum of reals, read as an extended real, is the sum of the extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The larger of two reals, read as an extended real. -/
theorem coe_max (a b : ℝ) : max (a : EReal) (b : EReal) = ((max a b : ℝ) : EReal) :=
  (EReal.coe_strictMono.monotone.map_max).symm

/-- The larger of a real and zero. -/
theorem coe_max_zero (a : ℝ) : max (a : EReal) 0 = ((max a 0 : ℝ) : EReal) := coe_max a 0

/-- A contraction of reals is real. -/
theorem dot_coe {ι : Type} [Fintype ι] (f g : ι → ℝ) :
    ∑ i, ((f i : ℝ) : EReal) * ((g i : ℝ) : EReal) = ((∑ i, f i * g i : ℝ) : EReal) := by
  rw [← coe_sum]; exact Finset.sum_congr rfl fun i _ => (EReal.coe_mul _ _).symm

/-- The quotient of two reals, the divisor not zero. -/
theorem div_coe (a : ℝ) {b : ℝ} (hb : b ≠ 0) : Ideal.div (a : EReal) (b : EReal) = ((a / b : ℝ) : EReal) := by
  rw [Ideal.div_coe hb, ← EReal.coe_mul, mul_one_div]

/-- The exponential of a difference of reals. -/
theorem exp_sub_coe (a b : ℝ) : Ideal.exp ((a : EReal) - (b : EReal)) = ((Real.exp (a - b) : ℝ) : EReal) := by
  rw [← EReal.coe_sub, Ideal.exp_coe]

/-- Where a mask leaves `-∞`, the exponential of the shifted value is zero. -/
theorem exp_bot_sub (b : ℝ) : Ideal.exp ((⊥ : EReal) - (b : EReal)) = ((0 : ℝ) : EReal) := by
  rw [EReal.bot_sub, Ideal.exp_bot, EReal.coe_zero]

/-- A sum in which one term is kept and the others are zero is that term, whatever the other values are. -/
theorem sum_pick {n : ℕ} (a : Fin n) (f : Fin n → EReal) : (∑ s, if a = s then f s else 0) = f a := by
  rw [Finset.sum_ite_eq]; simp

/-- The maximum of a real and of values none of which is `+∞` is real. -/
theorem max_fold_real {ι : Type} (s : Finset ι) (f : ι → EReal) (hf : ∀ i, f i ≠ ⊤) (a : ℝ) :
    ∃ r : ℝ, max (a : EReal) (s.fold max ⊥ f) = (r : EReal) := by
  classical
  have h : s.fold max ⊥ f ≠ ⊤ := by
    induction s using Finset.induction_on with
    | empty => simp
    | insert i s hi ih =>
      rw [Finset.fold_insert hi]
      rcases max_choice (f i) (s.fold max ⊥ f) with e | e <;> rw [e]
      · exact hf i
      · exact ih
  induction h' : s.fold max ⊥ f with
  | bot => exact ⟨a, by simp⟩
  | top => exact absurd h' h
  | coe r => exact ⟨max a r, coe_max a r⟩

/-- The f32 word of one eighth. -/
theorem ofBits_eighth : Ideal.ofBits .f32 0x3E000000#32 = (((1 : ℝ) / 8 : ℝ) : EReal) := by
  simp [Ideal.ofBits, Ideal.ieee, -EReal.coe_mul]; norm_num

/-- The f32 word of sixty-four. -/
theorem ofBits_64 : Ideal.ofBits .f32 0x42800000#32 = ((64 : ℝ) : EReal) := by
  simp [Ideal.ofBits, Ideal.ieee, -EReal.coe_mul]; norm_num

/-- The f32 word of minus infinity. -/
theorem ofBits_neg_inf : Ideal.ofBits .f32 0xFF800000#32 = ⊥ := by simp [Ideal.ofBits, Ideal.ieee]

/-- The f32 word of plus infinity. -/
theorem ofBits_inf : Ideal.ofBits .f32 0x7F800000#32 = ⊤ := by simp [Ideal.ofBits, Ideal.ieee]

/-- The finite stand-in from which the running maximum starts is a real. -/
theorem ofBits_start : ∃ r : ℝ, Ideal.ofBits .f32 0xF149F2CA#32 = (r : EReal) := by
  simp only [Ideal.ofBits, Ideal.ieee]
  rw [if_neg (by decide), if_neg (by decide)]
  exact ⟨_, rfl⟩

/-- A value whose absolute value is below `+∞` is real. -/
theorem real_of_abs_lt {x : EReal} (h : max x (-x) < ⊤) : ∃ r : ℝ, x = (r : EReal) := by
  induction x with
  | bot => simp at h
  | top => simp at h
  | coe r => exact ⟨r, rfl⟩

/-! ## The network over the reals -/

/-- The arguments as reals, each row's segment as a number below sixteen. -/
structure Inputs where
  obj : Fin 32768 → Fin 64 → ℝ
  ctx : Fin 16 → Fin 128 → ℝ
  seg : Fin 32768 → Fin 16
  w1 : Fin 64 → Fin 64 → ℝ
  b1 : Fin 64 → ℝ
  w2 : Fin 64 → Fin 64 → ℝ
  b2 : Fin 64 → ℝ
  w3 : Fin 64 → Fin 128 → ℝ
  b3 : Fin 128 → ℝ
  wq : Fin 128 → Fin 64 → ℝ
  bq : Fin 64 → ℝ

/-- An affine layer. -/
def layer {a b : ℕ} (x : Fin a → ℝ) (w : Fin a → Fin b → ℝ) (c : Fin b → ℝ) (k : Fin b) : ℝ := ∑ j, x j * w j k + c k

/-- A column among the first sixty-four of the key-and-value table. -/
def lo (k : Fin 64) : Fin 128 := ⟨k.val, by omega⟩
/-- A column among the last sixty-four of it. -/
def hi (k : Fin 64) : Fin 128 := ⟨64 + k.val, by omega⟩

namespace Inputs

variable (I : Inputs)

/-- The second hidden layer of a row. -/
def hid (i : Fin 32768) (k : Fin 64) : ℝ :=
  max (layer (fun j => max (layer (I.obj i) I.w1 I.b1 j) 0) I.w2 I.b2 k) 0
/-- A row's keys. -/
def key (i : Fin 32768) (k : Fin 64) : ℝ := layer (I.hid i) I.w3 I.b3 (lo k)
/-- A row's values. -/
def val (i : Fin 32768) (k : Fin 64) : ℝ := layer (I.hid i) I.w3 I.b3 (hi k)
/-- A segment's query. -/
def qry (s : Fin 16) (k : Fin 64) : ℝ := layer (I.ctx s) I.wq I.bq k
/-- A row's logit against any segment's query. -/
def logit (s : Fin 16) (i : Fin 32768) : ℝ := (∑ k, I.qry s k * I.key i k) / 8
/-- A row's logit against the query of its own segment. -/
def own (i : Fin 32768) : ℝ := I.logit (I.seg i) i

/-- The query weighted by the key table, scaled. -/
def wlog (s : Fin 16) (j : Fin 64) : ℝ := (∑ k, I.qry s k * I.w3 j (lo k)) * (1 / 8)
/-- The query weighted by the key bias, scaled. -/
def blog (s : Fin 16) : ℝ := (∑ k, I.qry s k * I.b3 (lo k)) * (1 / 8)

/-- The scaled product of a query and a row's keys, with the query carried through the key table first. -/
theorem logit_eq (s : Fin 16) (i : Fin 32768) : ∑ j, I.wlog s j * I.hid i j + I.blog s = I.logit s i := by
  have e : ∑ k, I.qry s k * I.key i k
      = ∑ j, (∑ k, I.qry s k * I.w3 j (lo k)) * I.hid i j + ∑ k, I.qry s k * I.b3 (lo k) := by
    have e1 : ∀ k, I.qry s k * I.key i k
        = ∑ j, I.qry s k * I.w3 j (lo k) * I.hid i j + I.qry s k * I.b3 (lo k) := fun k => by
      rw [key, layer, mul_add, Finset.mul_sum]
      exact congrArg (· + _) (Finset.sum_congr rfl fun j _ => by ring)
    simp only [e1, Finset.sum_add_distrib, Finset.sum_mul]
    rw [Finset.sum_comm]
  rw [logit, e, add_div, Finset.sum_div, blog]
  simp only [wlog]
  refine congrArg₂ (· + ·) (Finset.sum_congr rfl fun j _ => by ring) (by ring)

/-! ## The softmax of each segment -/

/-- The terms of a segment's denominator, shifted by `M`: the exponential of the shifted logit on the segment's rows, zero elsewhere. -/
def term (M : ℝ) (s : Fin 16) (i : Fin 32768) : ℝ := if I.seg i = s then Real.exp (I.own i - M) else 0
/-- A segment's denominator, shifted by `M`. -/
def den (M : ℝ) (s : Fin 16) : ℝ := ∑ i, I.term M s i
/-- A segment's weighted sum of values before the division, shifted by `M`. -/
def num (M : ℝ) (s : Fin 16) (k : Fin 64) : ℝ := ∑ i, I.term M s i * I.val i k
/-- A row's weight. -/
def wt (i : Fin 32768) : ℝ := Real.exp (I.own i) / I.den 0 (I.seg i)
/-- A segment's embedding. -/
def emb (s : Fin 16) (k : Fin 64) : ℝ := ∑ i, if I.seg i = s then I.wt i * I.val i k else 0

/-- A shift multiplies every term by one factor. -/
theorem term_shift (M : ℝ) (s : Fin 16) (i : Fin 32768) : I.term M s i = I.term 0 s i * Real.exp (-M) := by
  unfold term
  split
  · rw [← Real.exp_add]; congr 1; ring
  · rw [zero_mul]

/-- Another shift changes a term by the exponential of the difference. -/
theorem term_rescale (M M' : ℝ) (s : Fin 16) (i : Fin 32768) : I.term M s i * Real.exp (M - M') = I.term M' s i := by
  rw [term_shift, term_shift I M', mul_assoc, ← Real.exp_add]; congr 2; ring

/-- So it does the denominator. -/
theorem den_shift (M : ℝ) (s : Fin 16) : I.den M s = I.den 0 s * Real.exp (-M) := by
  unfold den; rw [Finset.sum_mul]; exact Finset.sum_congr rfl fun i _ => I.term_shift M s i

/-- So it does the weighted sum. -/
theorem num_shift (M : ℝ) (s : Fin 16) (k : Fin 64) : I.num M s k = I.num 0 s k * Real.exp (-M) := by
  unfold num; rw [Finset.sum_mul]; exact Finset.sum_congr rfl fun i _ => by rw [I.term_shift M s i]; ring

/-- Every term is at least zero. -/
theorem term_nonneg (M : ℝ) (s : Fin 16) (i : Fin 32768) : 0 ≤ I.term M s i := by
  unfold term; split
  · exact (Real.exp_pos _).le
  · exact le_refl 0

/-- A segment that has a row has a positive denominator. -/
theorem den_pos (M : ℝ) (i : Fin 32768) : 0 < I.den M (I.seg i) :=
  Finset.sum_pos' (fun j _ => I.term_nonneg M _ j) ⟨i, Finset.mem_univ _, by unfold term; rw [if_pos rfl]; exact Real.exp_pos _⟩

/-- A row's weight, whatever the shift. -/
theorem wt_shift (M : ℝ) (i : Fin 32768) : Real.exp (I.own i - M) / I.den M (I.seg i) = I.wt i := by
  have h : I.den 0 (I.seg i) ≠ 0 := (I.den_pos 0 i).ne'
  have h' := (Real.exp_pos (-M)).ne'
  rw [den_shift, wt, sub_eq_add_neg, Real.exp_add]
  exact mul_div_mul_right _ _ h'

/-- A segment's embedding is its weighted sum over its denominator, whatever the shift; of a segment without rows it is zero. -/
theorem emb_shift (M : ℝ) (s : Fin 16) (k : Fin 64) :
    (if 0 < I.den M s then I.num M s k / I.den M s else 0) = I.emb s k := by
  split
  · rename_i h
    rw [num, Finset.sum_div, emb]
    refine Finset.sum_congr rfl fun i _ => ?_
    unfold term
    split
    · rename_i e
      rw [← I.wt_shift M i, e]; ring
    · simp
  · rename_i h
    unfold emb
    refine (Finset.sum_eq_zero fun i _ => ?_).symm
    split
    · rename_i e
      exact absurd (e ▸ I.den_pos M i) h
    · rfl

/-! ## Sums over the first rows -/

/-- A function of a row, as a function of any number: zero from the last row on. -/
def ext (f : Fin 32768 → ℝ) (i : ℕ) : ℝ := if h : i < 32768 then f ⟨i, h⟩ else 0

/-- The sum over the first `n` rows. -/
def pre (f : Fin 32768 → ℝ) (n : ℕ) : ℝ := ∑ i ∈ Finset.range n, ext f i

/-- Over no rows. -/
theorem pre_zero (f : Fin 32768 → ℝ) : pre f 0 = 0 := by simp [pre]

/-- One block of rows more. -/
theorem pre_add (f : Fin 32768 → ℝ) (n k : ℕ) (h : n + k ≤ 32768) :
    pre f (n + k) = pre f n + ∑ r : Fin k, f ⟨n + r.val, by omega⟩ := by
  unfold pre
  rw [Finset.sum_range_add, Finset.sum_range (n := k)]
  exact congrArg (_ + ·) (Finset.sum_congr rfl fun r _ => dif_pos (by omega))

/-- Over all rows. -/
theorem pre_all (f : Fin 32768 → ℝ) : pre f 32768 = ∑ i, f i := by
  unfold pre
  rw [Finset.sum_range]
  exact Finset.sum_congr rfl fun r _ => dif_pos r.isLt

/-- A factor common to all terms. -/
theorem pre_mul (f : Fin 32768 → ℝ) (n : ℕ) (a : ℝ) : pre f n * a = pre (fun i => f i * a) n := by
  unfold pre
  rw [Finset.sum_mul]
  refine Finset.sum_congr rfl fun i _ => ?_
  unfold ext; split <;> simp

end Inputs

end Cert.SegMath
-- ==== Proof.Value.Reads.lean ====
module

public import proofs.«01_k».proof.Proof.Value.Real
public import Idealize.ShloMosaic.Lib.Pointwise

@[expose] public section

/-! The eleven argument arrays, as arrays of extended reals and of words, against the real inputs that they hold. -/

noncomputable section

namespace Cert.SegMath

open Idealize.ShloMosaic

/-- The argument arrays hold the inputs: every float is the real, every segment number the word. -/
structure Reads (a0 : Vec Ideal ⟨2, ![32768, 64]⟩ .f32) (a1 : Vec Ideal ⟨2, ![16, 128]⟩ .f32) (a2 : Vec Ideal ⟨1, ![32768]⟩ .i32)
    (a3 : Vec Ideal ⟨2, ![64, 64]⟩ .f32) (a4 : Vec Ideal ⟨1, ![64]⟩ .f32) (a5 : Vec Ideal ⟨2, ![64, 64]⟩ .f32)
    (a6 : Vec Ideal ⟨1, ![64]⟩ .f32) (a7 : Vec Ideal ⟨2, ![64, 128]⟩ .f32) (a8 : Vec Ideal ⟨1, ![128]⟩ .f32)
    (a9 : Vec Ideal ⟨2, ![128, 64]⟩ .f32) (a10 : Vec Ideal ⟨1, ![64]⟩ .f32) (I : Inputs) : Prop where
  obj : ∀ i j, a0 (ix2 i j) = ((I.obj i j : ℝ) : EReal)
  ctx : ∀ s j, a1 (ix2 s j) = ((I.ctx s j : ℝ) : EReal)
  seg : ∀ i, a2 (ix1 i) = BitVec.ofNat 32 (I.seg i).val
  w1 : ∀ j k, a3 (ix2 j k) = ((I.w1 j k : ℝ) : EReal)
  b1 : ∀ k, a4 (ix1 k) = ((I.b1 k : ℝ) : EReal)
  w2 : ∀ j k, a5 (ix2 j k) = ((I.w2 j k : ℝ) : EReal)
  b2 : ∀ k, a6 (ix1 k) = ((I.b2 k : ℝ) : EReal)
  w3 : ∀ j k, a7 (ix2 j k) = ((I.w3 j k : ℝ) : EReal)
  b3 : ∀ k, a8 (ix1 k) = ((I.b3 k : ℝ) : EReal)
  wq : ∀ j k, a9 (ix2 j k) = ((I.wq j k : ℝ) : EReal)
  bq : ∀ k, a10 (ix1 k) = ((I.bq k : ℝ) : EReal)

end Cert.SegMath
-- ==== Proof.Value.Host.lean ====
module

public import proofs.«01_k».proof.Proof.KernelIdeal.Run
public import proofs.«01_k».proof.Proof.Value.Reads
public import Idealize.ShloMosaic.Lib.Pipeline.ValueKit
public import Idealize.ShloMosaic.Lib.Claim

@[expose] public section

set_option maxRecDepth 16384

/-! What the first host stretch leaves for the launches: the casts, the two halves of the key-and-value table, the rows' shapes. -/

noncomputable section

namespace Cert.KernelIdeal.Val

open Cert.KernelIdeal.Gen Cert.KernelIdeal.Seg Cert.SegMath
open Idealize.ShloMosaic Idealize.ShloMosaic.TcCoe

/-- The kernel's arguments on core `c` hold the inputs. -/
abbrev Given (m : (ℓ : Loc nD τ sig) → Buf (Elt Ideal) ℓ) (c : Dev nD) (I : Inputs) : Prop :=
  Reads (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) I

variable {m : (ℓ : Loc nD τ sig) → Buf (Elt Ideal) ℓ} {c : Dev nD} {I : Inputs} (G : Given m c I)
include G

/-- The rows' table. -/
theorem host_obj (i : Fin 32768) (j : Fin 64) : (W1 m c main_call0_v1 : Vec Ideal S32768x64 .bf16) (ix2 i j) = ((I.obj i j : ℝ) : EReal) := by
  dsimp only [W1]
  entry_read
  pointwise
  exact G.obj i j

/-- The segment numbers in a row. -/
theorem host_seg (i : Fin 32768) : (W1 m c main_call0_v0 : Vec Ideal S1x32768 .i32) (ix2 0 i) = BitVec.ofNat 32 (I.seg i).val := by
  dsimp only [W1]
  entry_read
  pointwise
  exact G.seg i

/-- The keys' half of the table. -/
theorem host_keys (j k : Fin 64) : (W1 m c main_call0_v2 : Vec Ideal S64x64 .f32) (ix2 j k) = ((I.w3 j (lo k) : ℝ) : EReal) := by
  dsimp only [W1]
  entry_read
  show extractStridedSlice S64x64 ![0, 0] (m ((c : Thread nD τ).loc main_arg7) : Vec Ideal S64x128 .f32) slices_S64x128_S64x64_0_0 (ix2 j k) = _
  pointwise
  exact G.w3 j (lo k)

/-- The values' half of the table. -/
theorem host_vals (j k : Fin 64) : (W1 m c main_call0_v4 : Vec Ideal S64x64 .bf16) (ix2 j k) = ((I.w3 j (hi k) : ℝ) : EReal) := by
  dsimp only [W1]
  entry_read
  pointwise
  show extractStridedSlice S64x64 ![0, 64] (m ((c : Thread nD τ).loc main_arg7) : Vec Ideal S64x128 .f32) slices_S64x128_S64x64_0_64 (ix2 j k) = _
  pointwise
  exact G.w3 j (hi k)

/-- The keys' half of the bias. -/
theorem host_keyb (k : Fin 64) : (W1 m c main_call0_v6 : Vec Ideal S1x64 .f32) (ix2 0 k) = ((I.b3 (lo k) : ℝ) : EReal) := by
  dsimp only [W1]
  entry_read
  pointwise
  show extractStridedSlice S64 ![0] (m ((c : Thread nD τ).loc main_arg8) : Vec Ideal S128 .f32) slices_S128_S64_0 (ix1 k) = _
  pointwise
  exact G.b3 (lo k)

/-- The values' half of the bias. -/
theorem host_valb (k : Fin 64) : (W1 m c main_call0_v8 : Vec Ideal S1x64 .f32) (ix2 0 k) = ((I.b3 (hi k) : ℝ) : EReal) := by
  dsimp only [W1]
  entry_read
  pointwise
  show extractStridedSlice S64 ![64] (m ((c : Thread nD τ).loc main_arg8) : Vec Ideal S128 .f32) slices_S128_S64_64 (ix1 k) = _
  pointwise
  exact G.b3 (hi k)

/-- The first layer's bias. -/
theorem host_b1 (k : Fin 64) : (W1 m c main_call0_v9 : Vec Ideal S1x64 .f32) (ix2 0 k) = ((I.b1 k : ℝ) : EReal) := by
  dsimp only [W1]
  entry_read
  pointwise
  exact G.b1 k

/-- The second layer's bias. -/
theorem host_b2 (k : Fin 64) : (W1 m c main_call0_v10 : Vec Ideal S1x64 .f32) (ix2 0 k) = ((I.b2 k : ℝ) : EReal) := by
  dsimp only [W1]
  entry_read
  pointwise
  exact G.b2 k

/-- The queries' bias. -/
theorem host_bq (k : Fin 64) : (W1 m c main_call0_v11 : Vec Ideal S1x64 .f32) (ix2 0 k) = ((I.bq k : ℝ) : EReal) := by
  dsimp only [W1]
  entry_read
  pointwise
  exact G.bq k

/-- The first layer's table. -/
theorem host_w1 (j k : Fin 64) : (W1 m c main_call0_v12 : Vec Ideal S64x64 .bf16) (ix2 j k) = ((I.w1 j k : ℝ) : EReal) := by
  dsimp only [W1]
  entry_read
  pointwise
  exact G.w1 j k

/-- The second layer's table. -/
theorem host_w2 (j k : Fin 64) : (W1 m c main_call0_v13 : Vec Ideal S64x64 .bf16) (ix2 j k) = ((I.w2 j k : ℝ) : EReal) := by
  dsimp only [W1]
  entry_read
  pointwise
  exact G.w2 j k

/-- The contexts are an argument. -/
theorem host_ctx (s : Fin 16) (j : Fin 128) : (W1 m c main_arg1 : Vec Ideal S16x128 .f32) (ix2 s j) = ((I.ctx s j : ℝ) : EReal) := by
  dsimp only [W1]
  entry_read
  exact G.ctx s j

/-- The queries' table is an argument. -/
theorem host_wq (j : Fin 128) (k : Fin 64) : (W1 m c main_arg9 : Vec Ideal S128x64 .f32) (ix2 j k) = ((I.wq j k : ℝ) : EReal) := by
  dsimp only [W1]
  entry_read
  exact G.wq j k

end Cert.KernelIdeal.Val
-- ==== Proof.Value.Pay.lean ====
module

public import proofs.«01_k».proof.Proof.Gen.KernelIdeal.Skeleton
public import proofs.«01_k».proof.Proof.KernelIdeal.Body1
public import proofs.«01_k».proof.Proof.Value.Real
public import Idealize.ShloMosaic.Lib.Pointwise

@[expose] public section

set_option maxRecDepth 16384

/-! What each launch's body stores, over operands that are real: the values, element by element, as real numbers. -/

noncomputable section

namespace Cert.KernelIdeal.Val

open Cert.KernelIdeal.Gen Cert.KernelIdeal.Seg Cert.SegMath
open Idealize.ShloMosaic
open scoped BigOperators

/-- Two words below sixteen are equal exactly when they are the words of one number. -/
theorem word_eq (a s : Fin 16) : IntOp.cmpi CmpIPredicate.eq (BitVec.ofNat 32 a.val) (BitVec.ofNat 32 s.val) = if a = s then 1#1 else 0#1 := by
  revert a s; decide

/-- A choice by whether a row's word is a segment's word is the choice by whether the row is of that segment. -/
theorem select_word {α : Type} {w : BitVec 32} {a : Fin 16} (hw : w = BitVec.ofNat 32 a.val) (s : Fin 16) (x y : α) :
    Scalar.select (IntOp.cmpi CmpIPredicate.eq w (BitVec.ofNat 32 s.val)) x y = if a = s then x else y := by
  rw [hw, word_eq]
  split
  · exact ValueIdx.select_one x y
  · exact ValueIdx.select_zero x y

/-! ## The first launch -/

section Init

variable {v0 : Vec Ideal S16x128 .f32} {v1 : Vec Ideal S128x64 .f32} {v3 : Vec Ideal S1x64 .f32}
  {v7 : Vec Ideal S64x64 .f32} {v14 : Vec Ideal S1x64 .f32}
  {a : Fin 16 → Fin 128 → ℝ} {b : Fin 128 → Fin 64 → ℝ} {c : Fin 64 → ℝ} {w : Fin 64 → Fin 64 → ℝ} {d : Fin 64 → ℝ}
  (h0 : ∀ s j, v0 (ix2 s j) = ((a s j : ℝ) : EReal)) (h1 : ∀ j k, v1 (ix2 j k) = ((b j k : ℝ) : EReal))
  (h3 : ∀ k, v3 (ix2 0 k) = ((c k : ℝ) : EReal)) (h7 : ∀ j k, v7 (ix2 j k) = ((w j k : ℝ) : EReal))
  (h14 : ∀ k, v14 (ix2 0 k) = ((d k : ℝ) : EReal))
include h0 h1 h3

/-- The queries. -/
theorem pay1_real (s : Fin 16) (k : Fin 64) : k0_pay1 v0 v1 v3 (ix2 s k) = ((layer (a s) b c k : ℝ) : EReal) := by
  pointwise [k0_pay1]
  simp only [h0, h1, h3, dot_coe, layer, ← EReal.coe_add]

include h7 in
/-- The queries carried through the key table, scaled. -/
theorem pay2_real (s : Fin 16) (k : Fin 64) :
    k0_pay2 v0 v1 v3 v7 (ix2 s k) = (((∑ j, layer (a s) b c j * w k j) * (1 / 8) : ℝ) : EReal) := by
  pointwise [k0_pay2]
  simp only [pay1_real h0 h1 h3, h7, dot_coe, ofBits_eighth, ← EReal.coe_mul, coe_sum]

include h14 in
/-- The queries carried through the key bias, scaled. -/
theorem pay3_real (s : Fin 16) (u : Fin 1) :
    k0_pay3 v0 v1 v3 v14 (ix2 s u) = (((∑ j, layer (a s) b c j * d j) * (1 / 8) : ℝ) : EReal) := by
  pointwise [k0_pay3]
  simp only [pay1_real h0 h1 h3, h14, dot_coe, ofBits_eighth, ← EReal.coe_mul, coe_sum]

end Init

/-! ## The middle launch, one block -/

section Block

/-- The row of the whole table that is row `r` of the block beginning at row `n`. -/
def row (n : ℕ) (hn : n + 4096 ≤ 32768) (r : Fin 4096) : Fin 32768 := ⟨n + r.val, by omega⟩

/-- A block's operands are the rows from `n` on, and the resident tables. -/
structure Holds (B : Blk Ideal) (I : Inputs) (n : ℕ) (hn : n + 4096 ≤ 32768) : Prop where
  x0 : ∀ r j, B.x0 (ix2 r j) = ((I.obj (row n hn r) j : ℝ) : EReal)
  x1 : ∀ r, B.x1 (ix2 0 r) = BitVec.ofNat 32 (I.seg (row n hn r)).val
  x2 : ∀ j k, B.x2 (ix2 j k) = ((I.w1 j k : ℝ) : EReal)
  x3 : ∀ k, B.x3 (ix2 0 k) = ((I.b1 k : ℝ) : EReal)
  x4 : ∀ j k, B.x4 (ix2 j k) = ((I.w2 j k : ℝ) : EReal)
  x5 : ∀ k, B.x5 (ix2 0 k) = ((I.b2 k : ℝ) : EReal)
  x6 : ∀ j k, B.x6 (ix2 j k) = ((I.w3 j (hi k) : ℝ) : EReal)
  x7 : ∀ k, B.x7 (ix2 0 k) = ((I.b3 (hi k) : ℝ) : EReal)
  x8 : ∀ s j, B.x8 (ix2 s j) = ((I.wlog s j : ℝ) : EReal)
  x9 : ∀ s, B.x9 (ix2 s 0) = ((I.blog s : ℝ) : EReal)

variable {B : Blk Ideal} {I : Inputs} {n : ℕ} {hn : n + 4096 ≤ 32768} (H : Holds B I n hn)
include H

/-- The second hidden layer. -/
theorem hid_real (r : Fin 4096) (k : Fin 64) : B.hid (ix2 r k) = ((I.hid (row n hn r) k : ℝ) : EReal) := by
  unfold Blk.hid
  pointwise [k1_pay6]
  simp only [H.x0, H.x2, H.x3, H.x4, H.x5, dot_coe, ← EReal.coe_add, coe_max_zero, Inputs.hid, layer]

/-- The values. -/
theorem val_real (r : Fin 4096) (k : Fin 64) : B.val (ix2 r k) = ((I.val (row n hn r) k : ℝ) : EReal) := by
  have e := hid_real H
  unfold Blk.hid at e
  unfold Blk.val
  pointwise [k1_pay7]
  simp only [e, H.x6, H.x7, dot_coe, ← EReal.coe_add, Inputs.val, layer]

/-- The logits of the block's rows against every segment's query. -/
theorem pay9_real (s : Fin 16) (r : Fin 4096) :
    k1_pay9 B.hid (k1_pay8 B.x8) B.x9 (ix2 s r) = ((I.logit s (row n hn r) : ℝ) : EReal) := by
  pointwise [k1_pay9, k1_pay8]
  simp only [hid_real H, H.x8, H.x9, dot_coe, ← EReal.coe_add, Inputs.logit_eq]

/-- The logits that the block writes: each row's against its own segment's query. -/
theorem lgt_real (r : Fin 4096) : B.lgt (ix2 0 r) = ((I.own (row n hn r) : ℝ) : EReal) := by
  have e := pay9_real H
  unfold Blk.lgt
  unfold k1_pay12 k1_pay10
  generalize k1_pay9 B.hid (k1_pay8 B.x8) B.x9 = L at e ⊢
  pointwise
  simp only [select_word (H.x1 r), e]
  exact sum_pick _ _

/-- The logits with the rows of other segments at `-∞`. -/
theorem pay11_real (s : Fin 16) (r : Fin 4096) :
    k1_pay11 B.hid (k1_pay8 B.x8) B.x9 B.x1 (ix2 s r)
      = if I.seg (row n hn r) = s then ((I.logit s (row n hn r) : ℝ) : EReal) else ⊥ := by
  have e := pay9_real H
  unfold k1_pay11 k1_pay10
  generalize k1_pay9 B.hid (k1_pay8 B.x8) B.x9 = L at e ⊢
  pointwise
  simp only [select_word (H.x1 r), e, ofBits_neg_inf]

/-- The running maximum stays real. -/
theorem pay13_real {ms : Vec Ideal S16x1 .f32} {M : Fin 16 → ℝ} (hM : ∀ s, ms (ix2 s 0) = ((M s : ℝ) : EReal)) (s : Fin 16) :
    ∃ M' : ℝ, k1_pay13 B.hid (k1_pay8 B.x8) B.x9 B.x1 ms (ix2 s 0) = (M' : EReal) := by
  have e := pay11_real H s
  unfold k1_pay13
  generalize k1_pay11 B.hid (k1_pay8 B.x8) B.x9 B.x1 = L at e ⊢
  pointwise
  rw [hM, ofBits_neg_inf]
  refine max_fold_real _ _ (fun r => ?_) _
  rw [e]
  split
  · exact EReal.coe_ne_top _
  · exact bot_ne_top

/-- What a row contributes to a segment once the maximum is `M`. -/
theorem pay16_real {ms : Vec Ideal S16x1 .f32} {M : ℝ} {s : Fin 16}
    (hM : k1_pay13 B.hid (k1_pay8 B.x8) B.x9 B.x1 ms (ix2 s 0) = (M : EReal)) (r : Fin 4096) :
    k1_pay16 B.hid (k1_pay8 B.x8) B.x9 B.x1 ms (ix2 s r) = ((I.term M s (row n hn r) : ℝ) : EReal) := by
  have e := pay11_real H s r
  unfold k1_pay16
  generalize k1_pay11 B.hid (k1_pay8 B.x8) B.x9 B.x1 = L at e ⊢
  generalize k1_pay13 B.hid (k1_pay8 B.x8) B.x9 B.x1 ms = P at hM ⊢
  pointwise
  rw [e, hM]
  unfold Inputs.term
  split
  · rename_i h
    rw [exp_sub_coe, Inputs.own, h]
  · exact exp_bot_sub M

/-- The carried state after the rows before `n`, at the maxima `M`. -/
structure Carries (st : Carry Ideal) (I : Inputs) (n : ℕ) (M : Fin 16 → ℝ) : Prop where
  ms : ∀ s, st.ms (ix2 s 0) = ((M s : ℝ) : EReal)
  ds : ∀ s, st.ds (ix2 s 0) = ((Inputs.pre (I.term (M s) s) n : ℝ) : EReal)
  acc : ∀ s k, st.acc (ix2 s k) = ((Inputs.pre (fun i => I.term (M s) s i * I.val i k) n : ℝ) : EReal)

/-- One block carries the state over its rows: the sums so far are rescaled to the new maxima, and the block's terms are added. -/
theorem step_real {st : Carry Ideal} {M : Fin 16 → ℝ} (C : Carries st I n M) : ∃ M', Carries (B.step st) I (n + 4096) M' := by
  choose M' hM' using fun s => pay13_real H C.ms s
  have e16 := fun s r => pay16_real H (hM' s) r
  have e14 : ∀ s, k1_pay14 B.hid (k1_pay8 B.x8) B.x9 B.x1 st.ms (ix2 s 0) = ((Real.exp (M s - M' s) : ℝ) : EReal) := fun s => by
    have h := hM' s
    unfold k1_pay14
    generalize k1_pay13 B.hid (k1_pay8 B.x8) B.x9 B.x1 st.ms = P at h ⊢
    pointwise
    rw [C.ms, h, exp_sub_coe]
  refine ⟨M', fun s => ?_, fun s => ?_, fun s k => ?_⟩
  · have h := hM' s
    show k1_pay15 B.hid (k1_pay8 B.x8) B.x9 B.x1 st.ms (ix2 s 0) = _
    unfold k1_pay15
    generalize k1_pay13 B.hid (k1_pay8 B.x8) B.x9 B.x1 st.ms = P at h ⊢
    pointwise
    exact h
  · show k1_pay17 B.hid (k1_pay8 B.x8) B.x9 B.x1 st.ms st.ds (ix2 s 0) = _
    unfold k1_pay17
    generalize k1_pay14 B.hid (k1_pay8 B.x8) B.x9 B.x1 st.ms = A at e14 ⊢
    generalize k1_pay16 B.hid (k1_pay8 B.x8) B.x9 B.x1 st.ms = E at e16 ⊢
    pointwise
    simp only [C.ds, e14, e16, coe_sum, ← EReal.coe_mul, ← EReal.coe_add]
    rw [Inputs.pre_add _ n 4096 hn, Inputs.pre_mul]
    simp only [Inputs.term_rescale]
    rfl
  · have ev := val_real H
    show k1_pay1 B.val (k1_pay14 B.hid (k1_pay8 B.x8) B.x9 B.x1 st.ms) (k1_pay16 B.hid (k1_pay8 B.x8) B.x9 B.x1 st.ms) st.acc (ix2 s k) = _
    unfold k1_pay1
    generalize k1_pay14 B.hid (k1_pay8 B.x8) B.x9 B.x1 st.ms = A at e14 ⊢
    generalize k1_pay16 B.hid (k1_pay8 B.x8) B.x9 B.x1 st.ms = E at e16 ⊢
    generalize B.val = v at ev ⊢
    pointwise
    simp only [C.acc, e14, e16, ev, dot_coe, ← EReal.coe_mul, ← EReal.coe_add]
    rw [Inputs.pre_add _ n 4096 hn, Inputs.pre_mul]
    have e : (fun i => I.term (M s) s i * I.val i k * Real.exp (M s - M' s)) = fun i => I.term (M' s) s i * I.val i k :=
      funext fun i => by rw [mul_right_comm, Inputs.term_rescale]
    rw [e, coe_sum, ← EReal.coe_add]
    rfl

end Block

/-- The state from which the first block starts. -/
theorem init_real (I : Inputs) : ∃ M, Carries (Carry.init (F := Ideal)) I 0 M := by
  obtain ⟨r, hr⟩ := ofBits_start
  refine ⟨fun _ => r, fun s => ?_, fun s => ?_, fun s k => ?_⟩
  · show k1_pay3 (F := Ideal) (ix2 s 0) = _
    rw [← hr]
    pointwise [k1_pay3]
  · show k1_pay4 (F := Ideal) (ix2 s 0) = _
    rw [Inputs.pre_zero]
    pointwise [k1_pay4]
    rfl
  · show k1_pay5 (F := Ideal) (ix2 s k) = _
    rw [Inputs.pre_zero]
    pointwise [k1_pay5]
    rfl

/-- What the last point writes of the embeddings. -/
theorem emb_real {st : Carry Ideal} {I : Inputs} {M : Fin 16 → ℝ} (C : Carries st I 32768 M) (s : Fin 16) (k : Fin 64) :
    st.emb (ix2 s k) = ((I.emb s k : ℝ) : EReal) := by
  have ed : st.ds (ix2 s 0) = ((I.den (M s) s : ℝ) : EReal) := by rw [C.ds, Inputs.pre_all]; rfl
  have ea : st.acc (ix2 s k) = ((I.num (M s) s k : ℝ) : EReal) := by rw [C.acc, Inputs.pre_all]; rfl
  unfold Carry.emb
  pointwise [k1_pay2]
  rw [ed, ea, ← I.emb_shift (M s) s k]
  by_cases h : 0 < I.den (M s) s
  · rw [if_pos h, if_pos (EReal.coe_pos.mpr h), div_coe _ h.ne']
  · rw [if_neg h, if_neg (fun h' => h (EReal.coe_pos.mp h')), EReal.coe_zero]

/-! ## The last launch, one block -/

/-- The weights that a block writes, from the maxima and the denominators of all segments and the block's own logits. -/
theorem weights_real {I : Inputs} {M : Fin 16 → ℝ} {x1 : Vec Ideal S1x16384 .i32} {x2 x3 : Vec Ideal S16x1 .f32}
    {x0 : Vec Ideal S1x16384 .f32} (i : Fin 32768) (r : Fin 16384)
    (h1 : x1 (ix2 0 r) = BitVec.ofNat 32 (I.seg i).val)
    (h2 : ∀ s, x2 (ix2 s 0) = ((M s : ℝ) : EReal)) (h3 : ∀ s, x3 (ix2 s 0) = ((I.den (M s) s : ℝ) : EReal))
    (h0 : x0 (ix2 0 r) = ((I.own i : ℝ) : EReal)) :
    k2_pay1 x1 x2 x3 x0 (ix2 0 r) = ((I.wt i : ℝ) : EReal) := by
  pointwise [k2_pay1]
  simp only [select_word h1, sum_pick, h0, h2, h3]
  have hd := I.den_pos (M (I.seg i)) i
  rw [exp_sub_coe, show (1 : EReal) = ((1 : ℝ) : EReal) from rfl, div_coe _ hd.ne', ← EReal.coe_mul, ← I.wt_shift (M (I.seg i)) i,
    mul_one_div]

end Cert.KernelIdeal.Val
-- ==== Proof.Value.Arr0.lean ====
module

public import proofs.«01_k».proof.Proof.Value.Host
public import proofs.«01_k».proof.Proof.Value.Pay

@[expose] public section

set_option maxRecDepth 16384

/-! The two arrays that the first launch leaves: the queries carried through the key table and the key bias. -/

noncomputable section

namespace Cert.KernelIdeal.Val

open Cert.KernelIdeal.Gen Cert.KernelIdeal.Seg Cert.SegMath
open Idealize.ShloMosaic Idealize.ShloMosaic.TcCoe
open Idealize.ShloMosaic.Pipeline (Dat)

section Blocks

variable (V : (c : Dev nD) → (b : Ref sig .tc) → Buf (Elt Ideal) ((c : Thread nD τ).loc b)) (c : Dev nD) (t : Fin cfg0.N)

/-- Every window of the first launch holds its whole array. -/
theorem idx0 : ∀ t : Fin grid0.N, win0_0.index t = ![0, 0] ∧ win0_1.index t = ![0, 0] ∧ win0_2.index t = ![0, 0]
    ∧ win0_3.index t = ![0, 0] ∧ win0_4.index t = ![0, 0] ∧ win0_5.index t = ![0, 0] ∧ win0_6.index t = ![0, 0] := by
  decide +kernel

/-- The block of the contexts. -/
theorem blk0_0 (s : Fin 16) (j : Fin 128) : iblk0 V c 0 t (ix2 s j) = (V c main_arg1 : Vec Ideal S16x128 .f32) (ix2 s j) := by
  blk_ext [iblk0, (idx0 t).1]
/-- The block of the queries' table. -/
theorem blk0_1 (j : Fin 128) (k : Fin 64) : iblk0 V c 1 t (ix2 j k) = (V c main_arg9 : Vec Ideal S128x64 .f32) (ix2 j k) := by
  blk_ext [iblk0, (idx0 t).2.1]
/-- The block of the queries' bias. -/
theorem blk0_2 (k : Fin 64) : iblk0 V c 2 t (ix2 0 k) = (V c main_call0_v11 : Vec Ideal S1x64 .f32) (ix2 0 k) := by
  blk_ext [iblk0, (idx0 t).2.2.1]
/-- The block of the keys' table. -/
theorem blk0_3 (j k : Fin 64) : iblk0 V c 3 t (ix2 j k) = (V c main_call0_v2 : Vec Ideal S64x64 .f32) (ix2 j k) := by
  blk_ext [iblk0, (idx0 t).2.2.2.1]
/-- The block of the keys' bias. -/
theorem blk0_4 (k : Fin 64) : iblk0 V c 4 t (ix2 0 k) = (V c main_call0_v6 : Vec Ideal S1x64 .f32) (ix2 0 k) := by
  blk_ext [iblk0, (idx0 t).2.2.2.2.1]

end Blocks

variable {m : (ℓ : Loc nD τ sig) → Buf (Elt Ideal) ℓ} {c : Dev nD} {I : Inputs} (G : Given m c I)
include G

/-- The contexts, as the first launch reads them. -/
theorem in0_0 (t : Fin cfg0.N) (s : Fin 16) (j : Fin 128) : iblk0 (E1 m) c 0 t (ix2 s j) = ((I.ctx s j : ℝ) : EReal) :=
  (blk0_0 (E1 m) c t s j).trans (host_ctx G s j)
/-- The queries' table. -/
theorem in0_1 (t : Fin cfg0.N) (j : Fin 128) (k : Fin 64) : iblk0 (E1 m) c 1 t (ix2 j k) = ((I.wq j k : ℝ) : EReal) :=
  (blk0_1 (E1 m) c t j k).trans (host_wq G j k)
/-- The queries' bias. -/
theorem in0_2 (t : Fin cfg0.N) (k : Fin 64) : iblk0 (E1 m) c 2 t (ix2 0 k) = ((I.bq k : ℝ) : EReal) :=
  (blk0_2 (E1 m) c t k).trans (host_bq G k)
/-- The keys' table. -/
theorem in0_3 (t : Fin cfg0.N) (j k : Fin 64) : iblk0 (E1 m) c 3 t (ix2 j k) = ((I.w3 j (lo k) : ℝ) : EReal) :=
  (blk0_3 (E1 m) c t j k).trans (host_keys G j k)
/-- The keys' bias. -/
theorem in0_4 (t : Fin cfg0.N) (k : Fin 64) : iblk0 (E1 m) c 4 t (ix2 0 k) = ((I.b3 (lo k) : ℝ) : EReal) :=
  (blk0_4 (E1 m) c t k).trans (host_keyb G k)

/-- What the first launch leaves of the carried table. -/
theorem arr_wlog (s : Fin 16) (k : Fin 64) : (W2 m c main_call0_v14_0 : Vec Ideal S16x64 .bf16) (ix2 s k) = ((I.wlog s k : ℝ) : EReal) := by
  have h := (dat0 (E1 m) c).arrAt_forall_of_covers 5
    (fun (i : S16x64.Idx) (v : EReal) => v = ((I.wlog (i 0) (i 1) : ℝ) : EReal)) (by decide +kernel) (fun t hf y => ?_)
    (ix2 s k)
  · exact (congrFun (W2_arr m c 5) (ix2 s k)).trans h
  · obtain ⟨a, b, rfl⟩ : ∃ (a : Fin 16) (b : Fin 64), y = ix2 a b := ⟨y 0, y 1, eq_ix2 y⟩
    have e := (idx0 t).2.2.2.2.2.1
    blk_simp
    rw [show (win0_5.blk t).view.emb (ix2 a b) = (ix2 a b : S16x64.Idx) by blk_ext [e]]
    rw [after0_5, out0_5_eq]
    exact pay2_real (in0_0 G t) (in0_1 G t) (in0_2 G t) (in0_3 G t) a b

/-- What the first launch leaves of the carried bias. -/
theorem arr_blog (s : Fin 16) : (W2 m c main_call0_v14_1 : Vec Ideal S16x1 .f32) (ix2 s 0) = ((I.blog s : ℝ) : EReal) := by
  have h := (dat0 (E1 m) c).arrAt_forall_of_covers 6
    (fun (i : S16x1.Idx) (v : EReal) => v = ((I.blog (i 0) : ℝ) : EReal)) (by decide +kernel) (fun t hf y => ?_)
    (ix2 s 0)
  · exact (congrFun (W2_arr m c 6) (ix2 s 0)).trans h
  · obtain ⟨a, b, rfl⟩ : ∃ (a : Fin 16) (b : Fin 1), y = ix2 a b := ⟨y 0, y 1, eq_ix2 y⟩
    have e := (idx0 t).2.2.2.2.2.2
    blk_simp
    rw [show (win0_6.blk t).view.emb (ix2 a b) = (ix2 a b : S16x1.Idx) by blk_ext [e]]
    rw [after0_6, out0_6_eq]
    exact pay3_real (in0_0 G t) (in0_1 G t) (in0_2 G t) (in0_4 G t) a b

end Cert.KernelIdeal.Val
-- ==== Proof.Value.Arr1.lean ====
module

public import proofs.«01_k».proof.Proof.Value.Arr0

@[expose] public section

set_option maxRecDepth 16384

/-! The four arrays that the middle launch leaves: the logits block by block, and the carried state's last values. -/

noncomputable section

namespace Cert.KernelIdeal.Val

open Cert.KernelIdeal.Gen Cert.KernelIdeal.Seg Cert.SegMath
open Idealize.ShloMosaic Idealize.ShloMosaic.TcCoe
open Idealize.ShloMosaic.Pipeline (Dat)

/-- The middle launch has eight points. -/
theorem points1 : cfg1.N = 8 := by decide +kernel

/-- Point `t`'s rows are within the table. -/
theorem rows_le (t : Fin cfg1.N) : t.val * 4096 + 4096 ≤ 32768 := by
  have h := t.isLt
  have e := points1
  omega

section Blocks

variable (V : (c : Dev nD) → (b : Ref sig .tc) → Buf (Elt Ideal) ((c : Thread nD τ).loc b)) (c : Dev nD) (t : Fin cfg1.N)

/-- Where each window's block lies: the rows' windows step over the rows, the others hold their whole arrays. -/
theorem idx1 : ∀ t : Fin grid1.N, win1_0.index t = ![t.val, 0] ∧ win1_1.index t = ![0, t.val] ∧ win1_10.index t = ![0, t.val] := by
  decide +kernel
/-- The windows that hold their whole arrays. -/
theorem idx1w : ∀ t : Fin grid1.N, win1_2.index t = ![0, 0] ∧ win1_3.index t = ![0, 0] ∧ win1_4.index t = ![0, 0]
    ∧ win1_5.index t = ![0, 0] ∧ win1_6.index t = ![0, 0] ∧ win1_7.index t = ![0, 0] ∧ win1_8.index t = ![0, 0]
    ∧ win1_9.index t = ![0, 0] ∧ win1_11.index t = ![0, 0] ∧ win1_12.index t = ![0, 0] ∧ win1_13.index t = ![0, 0] := by
  decide +kernel

/-- The block of rows. -/
theorem blk1_0 (r : Fin 4096) (j : Fin 64) :
    iblk1 V c 0 t (ix2 r j) = (V c main_call0_v1 : Vec Ideal S32768x64 .bf16) (ix2 (row (t.val * 4096) (rows_le t) r) j) := by
  unfold row
  blk_ext [iblk1, (idx1 t).1]
/-- The block of segment numbers. -/
theorem blk1_1 (r : Fin 4096) :
    iblk1 V c 1 t (ix2 0 r) = (V c main_call0_v0 : Vec Ideal S1x32768 .i32) (ix2 0 (row (t.val * 4096) (rows_le t) r)) := by
  unfold row
  blk_ext [iblk1, (idx1 t).2.1]
/-- The first layer's table. -/
theorem blk1_2 (j k : Fin 64) : iblk1 V c 2 t (ix2 j k) = (V c main_call0_v12 : Vec Ideal S64x64 .bf16) (ix2 j k) := by
  blk_ext [iblk1, (idx1w t).1]
/-- The first layer's bias. -/
theorem blk1_3 (k : Fin 64) : iblk1 V c 3 t (ix2 0 k) = (V c main_call0_v9 : Vec Ideal S1x64 .f32) (ix2 0 k) := by
  blk_ext [iblk1, (idx1w t).2.1]
/-- The second layer's table. -/
theorem blk1_4 (j k : Fin 64) : iblk1 V c 4 t (ix2 j k) = (V c main_call0_v13 : Vec Ideal S64x64 .bf16) (ix2 j k) := by
  blk_ext [iblk1, (idx1w t).2.2.1]
/-- The second layer's bias. -/
theorem blk1_5 (k : Fin 64) : iblk1 V c 5 t (ix2 0 k) = (V c main_call0_v10 : Vec Ideal S1x64 .f32) (ix2 0 k) := by
  blk_ext [iblk1, (idx1w t).2.2.2.1]
/-- The values' table. -/
theorem blk1_6 (j k : Fin 64) : iblk1 V c 6 t (ix2 j k) = (V c main_call0_v4 : Vec Ideal S64x64 .bf16) (ix2 j k) := by
  blk_ext [iblk1, (idx1w t).2.2.2.2.1]
/-- The values' bias. -/
theorem blk1_7 (k : Fin 64) : iblk1 V c 7 t (ix2 0 k) = (V c main_call0_v8 : Vec Ideal S1x64 .f32) (ix2 0 k) := by
  blk_ext [iblk1, (idx1w t).2.2.2.2.2.1]
/-- The carried table. -/
theorem blk1_8 (s : Fin 16) (j : Fin 64) : iblk1 V c 8 t (ix2 s j) = (V c main_call0_v14_0 : Vec Ideal S16x64 .bf16) (ix2 s j) := by
  blk_ext [iblk1, (idx1w t).2.2.2.2.2.2.1]
/-- The carried bias. -/
theorem blk1_9 (s : Fin 16) : iblk1 V c 9 t (ix2 s 0) = (V c main_call0_v14_1 : Vec Ideal S16x1 .f32) (ix2 s 0) := by
  blk_ext [iblk1, (idx1w t).2.2.2.2.2.2.2.1]

end Blocks

variable {m : (ℓ : Loc nD τ sig) → Buf (Elt Ideal) ℓ} {c : Dev nD} {I : Inputs}

/-- What the host stretch wrote for the middle launch, the first launch leaves as it is. -/
theorem kept0 : ∀ r ∈ [main_call0_v0, main_call0_v1, main_call0_v4, main_call0_v8, main_call0_v9, main_call0_v10, main_call0_v12, main_call0_v13],
    ∀ w : Fin cfg0.W, Pipeline.arrRef spec0 w = r → (cfg0.win w).isOut = false :=
  ListAll.forall_mem_of_all_decide (by decide +kernel)

/-- Its contents. -/
theorem E2_kept (r : Ref sig .tc) (hr : r ∈ [main_call0_v0, main_call0_v1, main_call0_v4, main_call0_v8, main_call0_v9, main_call0_v10, main_call0_v12, main_call0_v13]) :
    E2 m c r = W1 m c r := W2_of m c r (kept0 r hr)

variable (G : Given m c I)
include G

/-- The rows, as point `t` reads them. -/
theorem in1_0 (t : Fin cfg1.N) (r : Fin 4096) (j : Fin 64) : iblk1 (E2 m) c 0 t (ix2 r j) = ((I.obj (row (t.val * 4096) (rows_le t) r) j : ℝ) : EReal) := by
  have h : (E2 m c main_call0_v1 : Vec Ideal S32768x64 .bf16) = W1 m c main_call0_v1 := E2_kept main_call0_v1 (by decide)
  rw [blk1_0, h]
  exact host_obj G _ j
/-- The segment numbers, as point `t` reads them. -/
theorem in1_1 (t : Fin cfg1.N) (r : Fin 4096) : iblk1 (E2 m) c 1 t (ix2 0 r) = BitVec.ofNat 32 (I.seg (row (t.val * 4096) (rows_le t) r)).val := by
  have h : (E2 m c main_call0_v0 : Vec Ideal S1x32768 .i32) = W1 m c main_call0_v0 := E2_kept main_call0_v0 (by decide)
  rw [blk1_1, h]
  exact host_seg G _
/-- The first layer's table, as point `t` reads them. -/
theorem in1_2 (t : Fin cfg1.N) (j k : Fin 64) : iblk1 (E2 m) c 2 t (ix2 j k) = ((I.w1 j k : ℝ) : EReal) := by
  have h : (E2 m c main_call0_v12 : Vec Ideal S64x64 .bf16) = W1 m c main_call0_v12 := E2_kept main_call0_v12 (by decide)
  rw [blk1_2, h]
  exact host_w1 G j k
/-- The first layer's bias, as point `t` reads them. -/
theorem in1_3 (t : Fin cfg1.N) (k : Fin 64) : iblk1 (E2 m) c 3 t (ix2 0 k) = ((I.b1 k : ℝ) : EReal) := by
  have h : (E2 m c main_call0_v9 : Vec Ideal S1x64 .f32) = W1 m c main_call0_v9 := E2_kept main_call0_v9 (by decide)
  rw [blk1_3, h]
  exact host_b1 G k
/-- The second layer's table, as point `t` reads them. -/
theorem in1_4 (t : Fin cfg1.N) (j k : Fin 64) : iblk1 (E2 m) c 4 t (ix2 j k) = ((I.w2 j k : ℝ) : EReal) := by
  have h : (E2 m c main_call0_v13 : Vec Ideal S64x64 .bf16) = W1 m c main_call0_v13 := E2_kept main_call0_v13 (by decide)
  rw [blk1_4, h]
  exact host_w2 G j k
/-- The second layer's bias, as point `t` reads them. -/
theorem in1_5 (t : Fin cfg1.N) (k : Fin 64) : iblk1 (E2 m) c 5 t (ix2 0 k) = ((I.b2 k : ℝ) : EReal) := by
  have h : (E2 m c main_call0_v10 : Vec Ideal S1x64 .f32) = W1 m c main_call0_v10 := E2_kept main_call0_v10 (by decide)
  rw [blk1_5, h]
  exact host_b2 G k
/-- The values' table, as point `t` reads them. -/
theorem in1_6 (t : Fin cfg1.N) (j k : Fin 64) : iblk1 (E2 m) c 6 t (ix2 j k) = ((I.w3 j (hi k) : ℝ) : EReal) := by
  have h : (E2 m c main_call0_v4 : Vec Ideal S64x64 .bf16) = W1 m c main_call0_v4 := E2_kept main_call0_v4 (by decide)
  rw [blk1_6, h]
  exact host_vals G j k
/-- The values' bias, as point `t` reads them. -/
theorem in1_7 (t : Fin cfg1.N) (k : Fin 64) : iblk1 (E2 m) c 7 t (ix2 0 k) = ((I.b3 (hi k) : ℝ) : EReal) := by
  have h : (E2 m c main_call0_v8 : Vec Ideal S1x64 .f32) = W1 m c main_call0_v8 := E2_kept main_call0_v8 (by decide)
  rw [blk1_7, h]
  exact host_valb G k
/-- The carried table. -/
theorem in1_8 (t : Fin cfg1.N) (s : Fin 16) (j : Fin 64) : iblk1 (E2 m) c 8 t (ix2 s j) = ((I.wlog s j : ℝ) : EReal) :=
  (blk1_8 (E2 m) c t s j).trans (arr_wlog G s j)
/-- The carried bias. -/
theorem in1_9 (t : Fin cfg1.N) (s : Fin 16) : iblk1 (E2 m) c 9 t (ix2 s 0) = ((I.blog s : ℝ) : EReal) :=
  (blk1_9 (E2 m) c t s).trans (arr_blog G s)

/-- Every point of the middle launch reads its rows and the tables. -/
theorem holds (t : Fin cfg1.N) : Holds (blkAt (E2 m) c t) I (t.val * 4096) (rows_le t) :=
  ⟨in1_0 G t, in1_1 G t, in1_2 G t, in1_3 G t, in1_4 G t, in1_5 G t, in1_6 G t, in1_7 G t, in1_8 G t, in1_9 G t⟩

/-- After point `n` the carried state is over the rows of the blocks up to it. -/
theorem carries (n : ℕ) : ∀ h : n < cfg1.N, ∃ M, Carries (stAt (E2 m) c n h) I (n * 4096 + 4096) M := by
  induction n with
  | zero =>
    intro h
    obtain ⟨M, C⟩ := init_real I
    have e : (⟨0, h⟩ : Fin cfg1.N).val * 4096 = 0 := Nat.zero_mul _
    have H := holds G ⟨0, h⟩
    exact step_real H (e.symm ▸ C)
  | succ n ih =>
    intro h
    obtain ⟨M, C⟩ := ih (Nat.lt_of_succ_lt h)
    have H := holds G ⟨n + 1, h⟩
    have e : (⟨n + 1, h⟩ : Fin cfg1.N).val * 4096 = n * 4096 + 4096 := Nat.succ_mul n 4096
    exact step_real H (e.symm ▸ C)

/-- The logits that the middle launch leaves. -/
theorem arr_logits (i : Fin 32768) : (W3 m c main_call0_v15_0 : Vec Ideal S1x32768 .f32) (ix2 0 i) = ((I.own i : ℝ) : EReal) := by
  have h := (dat1 (E2 m) c).arrAt_forall_of_covers 10
    (fun (i : S1x32768.Idx) (v : EReal) => v = ((I.own (i 1) : ℝ) : EReal)) (by decide +kernel) (fun t hf y => ?_)
    (ix2 0 i)
  · exact (congrFun (W3_arr m c 10) (ix2 0 i)).trans h
  · obtain ⟨a, b, rfl⟩ : ∃ (a : Fin 1) (b : Fin 4096), y = ix2 a b := ⟨y 0, y 1, eq_ix2 y⟩
    obtain rfl : a = 0 := Subsingleton.elim _ _
    have e := (idx1 t).2.2
    have hr := rows_le t
    blk_simp
    rw [show (win1_10.blk t).view.emb (ix2 0 b) = (ix2 0 (row (t.val * 4096) hr b) : S1x32768.Idx) by unfold row; blk_ext [e]]
    rw [after1_10]
    exact lgt_real (holds G t) b

/-- What the middle launch leaves of the carried state: some real maxima, the denominators shifted by them, and the embeddings. -/
theorem arr_state : ∃ M : Fin 16 → ℝ,
    (∀ s, (W3 m c main_call0_v15_1 : Vec Ideal S16x1 .f32) (ix2 s 0) = ((M s : ℝ) : EReal))
    ∧ (∀ s, (W3 m c main_call0_v15_2 : Vec Ideal S16x1 .f32) (ix2 s 0) = ((I.den (M s) s : ℝ) : EReal))
    ∧ ∀ s k, (W3 m c main_v0_0 : Vec Ideal S16x64 .f32) (ix2 s k) = ((I.emb s k : ℝ) : EReal) := by
  obtain ⟨t₀, ht₀⟩ : ∃ t₀ : Fin cfg1.N, t₀.val = 7 := ⟨⟨7, by rw [points1]; decide⟩, rfl⟩
  obtain ⟨M, C⟩ := carries G t₀.val t₀.isLt
  have C' : Carries (stAt (E2 m) c t₀.val t₀.isLt) I 32768 M := by
    have e : t₀.val * 4096 + 4096 = 32768 := by rw [ht₀]
    exact e ▸ C
  have only : ∀ t : Fin cfg1.N, t.val % 8 = 7 → t = t₀ := fun t h => Fin.ext (by
    have := t.isLt
    have e := points1
    omega)
  refine ⟨M, fun s => ?_, fun s => ?_, fun s k => ?_⟩
  · have h := (dat1 (E2 m) c).arrAt_forall_of_covers 11
      (fun (i : S16x1.Idx) (v : EReal) => v = ((M (i 0) : ℝ) : EReal)) (by decide +kernel) (fun t hf y => ?_) (ix2 s 0)
    · exact (congrFun (W3_arr m c 11) (ix2 s 0)).trans h
    · obtain ⟨a, b, rfl⟩ : ∃ (a : Fin 16) (b : Fin 1), y = ix2 a b := ⟨y 0, y 1, eq_ix2 y⟩
      obtain rfl : b = 0 := Subsingleton.elim _ _
      obtain rfl := only t ((flush1_11 t).mp hf)
      have e := (idx1w t).2.2.2.2.2.2.2.2.1
      blk_simp
      rw [show (win1_11.blk t).view.emb (ix2 a 0) = (ix2 a 0 : S16x1.Idx) by blk_ext [e]]
      rw [after1_11]
      exact C'.ms a
  · have h := (dat1 (E2 m) c).arrAt_forall_of_covers 12
      (fun (i : S16x1.Idx) (v : EReal) => v = ((I.den (M (i 0)) (i 0) : ℝ) : EReal)) (by decide +kernel) (fun t hf y => ?_) (ix2 s 0)
    · exact (congrFun (W3_arr m c 12) (ix2 s 0)).trans h
    · obtain ⟨a, b, rfl⟩ : ∃ (a : Fin 16) (b : Fin 1), y = ix2 a b := ⟨y 0, y 1, eq_ix2 y⟩
      obtain rfl : b = 0 := Subsingleton.elim _ _
      obtain rfl := only t ((flush1_12 t).mp hf)
      have e := (idx1w t).2.2.2.2.2.2.2.2.2.1
      blk_simp
      rw [show (win1_12.blk t).view.emb (ix2 a 0) = (ix2 a 0 : S16x1.Idx) by blk_ext [e]]
      rw [after1_12]
      exact (C'.ds a).trans (by rw [Inputs.pre_all]; rfl)
  · have h := (dat1 (E2 m) c).arrAt_forall_of_covers 13
      (fun (i : S16x64.Idx) (v : EReal) => v = ((I.emb (i 0) (i 1) : ℝ) : EReal)) (by decide +kernel) (fun t hf y => ?_) (ix2 s k)
    · exact (congrFun (W3_arr m c 13) (ix2 s k)).trans h
    · obtain ⟨a, b, rfl⟩ : ∃ (a : Fin 16) (b : Fin 64), y = ix2 a b := ⟨y 0, y 1, eq_ix2 y⟩
      obtain rfl := only t ((flush1_13 t).mp hf)
      have e := (idx1w t).2.2.2.2.2.2.2.2.2.2
      blk_simp
      rw [show (win1_13.blk t).view.emb (ix2 a b) = (ix2 a b : S16x64.Idx) by blk_ext [e]]
      rw [after1_13]
      exact emb_real C' a b

end Cert.KernelIdeal.Val
-- ==== Proof.Value.Arr2.lean ====
module

public import proofs.«01_k».proof.Proof.Value.Arr1

@[expose] public section

set_option maxRecDepth 16384

/-! The array that the last launch leaves, and the kernel's two results. -/

noncomputable section

namespace Cert.KernelIdeal.Val

open Cert.KernelIdeal.Gen Cert.KernelIdeal.Seg Cert.SegMath
open Idealize.ShloMosaic Idealize.ShloMosaic.TcCoe
open Idealize.ShloMosaic.Pipeline (Dat)

/-- The last launch has two points. -/
theorem points2 : cfg2.N = 2 := by decide +kernel

/-- The row of the whole table that is row `r` of point `t`'s block. -/
def wrow (t : Fin cfg2.N) (r : Fin 16384) : Fin 32768 := ⟨t.val * 16384 + r.val, by
  have h := t.isLt
  have e := points2
  have := r.isLt
  omega⟩

section Blocks

variable (V : (c : Dev nD) → (b : Ref sig .tc) → Buf (Elt Ideal) ((c : Thread nD τ).loc b)) (c : Dev nD) (t : Fin cfg2.N)

/-- Where each window's block lies. -/
theorem idx2 : ∀ t : Fin grid2.N, win2_0.index t = ![0, t.val] ∧ win2_1.index t = ![0, t.val] ∧ win2_2.index t = ![0, 0]
    ∧ win2_3.index t = ![0, 0] ∧ win2_4.index t = ![0, t.val] := by
  decide +kernel

/-- The block of logits. -/
theorem blk2_0 (r : Fin 16384) : iblk2 V c 0 t (ix2 0 r) = (V c main_call0_v15_0 : Vec Ideal S1x32768 .f32) (ix2 0 (wrow t r)) := by
  unfold wrow
  blk_ext [iblk2, (idx2 t).1]
/-- The block of segment numbers. -/
theorem blk2_1 (r : Fin 16384) : iblk2 V c 1 t (ix2 0 r) = (V c main_call0_v0 : Vec Ideal S1x32768 .i32) (ix2 0 (wrow t r)) := by
  unfold wrow
  blk_ext [iblk2, (idx2 t).2.1]
/-- The maxima. -/
theorem blk2_2 (s : Fin 16) : iblk2 V c 2 t (ix2 s 0) = (V c main_call0_v15_1 : Vec Ideal S16x1 .f32) (ix2 s 0) := by
  blk_ext [iblk2, (idx2 t).2.2.1]
/-- The denominators. -/
theorem blk2_3 (s : Fin 16) : iblk2 V c 3 t (ix2 s 0) = (V c main_call0_v15_2 : Vec Ideal S16x1 .f32) (ix2 s 0) := by
  blk_ext [iblk2, (idx2 t).2.2.2.1]

end Blocks

variable {m : (ℓ : Loc nD τ sig) → Buf (Elt Ideal) ℓ} {c : Dev nD} {I : Inputs}

/-- The segment numbers reach the last launch as the host stretch left them. -/
theorem E3_seg : (E3 m c main_call0_v0 : Vec Ideal S1x32768 .i32) = W1 m c main_call0_v0 :=
  (W3_of m c main_call0_v0 (by decide +kernel)).trans (W2_of m c main_call0_v0 (by decide +kernel))

variable (G : Given m c I)
include G

/-- The segment numbers, as the last launch reads them. -/
theorem in2_1 (t : Fin cfg2.N) (r : Fin 16384) : iblk2 (E3 m) c 1 t (ix2 0 r) = BitVec.ofNat 32 (I.seg (wrow t r)).val := by
  rw [blk2_1, E3_seg]
  exact host_seg G _
/-- The logits, as the last launch reads them. -/
theorem in2_0 (t : Fin cfg2.N) (r : Fin 16384) : iblk2 (E3 m) c 0 t (ix2 0 r) = ((I.own (wrow t r) : ℝ) : EReal) :=
  (blk2_0 (E3 m) c t r).trans (arr_logits G _)

/-- The weights that the last launch leaves. -/
theorem arr_weights (i : Fin 32768) : (W4 m c main_call0_v16 : Vec Ideal S1x32768 .f32) (ix2 0 i) = ((I.wt i : ℝ) : EReal) := by
  obtain ⟨M, hm, hd, -⟩ := arr_state G
  have h := (dat2 (E3 m) c).arrAt_forall_of_covers 4
    (fun (i : S1x32768.Idx) (v : EReal) => v = ((I.wt (i 1) : ℝ) : EReal)) (by decide +kernel) (fun t hf y => ?_)
    (ix2 0 i)
  · exact (congrFun (W4_arr m c 4) (ix2 0 i)).trans h
  · obtain ⟨a, b, rfl⟩ : ∃ (a : Fin 1) (b : Fin 16384), y = ix2 a b := ⟨y 0, y 1, eq_ix2 y⟩
    obtain rfl : a = 0 := Subsingleton.elim _ _
    have e := (idx2 t).2.2.2.2
    have h2 : ∀ s, iblk2 (E3 m) c 2 t (ix2 s 0) = ((M s : ℝ) : EReal) := fun s => (blk2_2 (E3 m) c t s).trans (hm s)
    have h3 : ∀ s, iblk2 (E3 m) c 3 t (ix2 s 0) = ((I.den (M s) s : ℝ) : EReal) := fun s => (blk2_3 (E3 m) c t s).trans (hd s)
    blk_simp
    rw [show (win2_4.blk t).view.emb (ix2 0 b) = (ix2 0 (wrow t b) : S1x32768.Idx) by unfold wrow; blk_ext [e]]
    rw [after2_4, out2_4_eq]
    exact weights_real (wrow t b) b (in2_1 G t b) h2 h3 (in2_0 G t b)

/-- The kernel's first result: the embeddings. -/
theorem out_emb (s : Fin 16) (k : Fin 64) : (W5 m c main_v0_0 : Vec Ideal S16x64 .f32) (ix2 s k) = ((I.emb s k : ℝ) : EReal) := by
  obtain ⟨M, -, -, he⟩ := arr_state G
  have h : (W5 m c main_v0_0 : Vec Ideal S16x64 .f32) = W3 m c main_v0_0 :=
    (StableHlo.after_of_writes_sub hostOps3 _ hostOps3_writes (by decide)).trans (W4_of m c main_v0_0 (by decide +kernel))
  rw [h]
  exact he s k

/-- The kernel's second result: the weights. -/
theorem out_wt (i : Fin 32768) : (W5 m c main_v0_1 : Vec Ideal S32768 .f32) (ix1 i) = ((I.wt i : ℝ) : EReal) := by
  dsimp only [W5]
  entry_read
  pointwise
  exact arr_weights G i

end Cert.KernelIdeal.Val
-- ==== Proof.Value.Ops.lean ====
module

public import proofs.«01_k».proof.Proof.Value.Real
public import Idealize.ShloMosaic.Lib.Routing.OpsPair
public import Idealize.ShloMosaic.Lib.Routing.OpsSearch
public import Idealize.ShloMosaic.Lib.ValueIdx
public import Idealize.ShloMosaic.Lib.ValueIdxRank1
public import Idealize.ShloMosaic.Lib.ReduceAll
public import Idealize.ShloMosaic.PureOps.Ideal.Laws

@[expose] public section

/-! Sums over segments, as a scatter that adds: of a vector into a vector, and of a matrix's rows into a matrix. -/

noncomputable section

namespace Cert.SegMath

open Idealize.ShloMosaic Idealize.ShloMosaic.Routing Idealize.ShloMosaic.ValueIdx
open scoped BigOperators

/-- The dimension numbers of a sum of a vector's entries over segments. -/
abbrev segDims1 (N n : Nat) (wf : ScatterDims.WF (shape1 N) (shape2 n 1) (shape1 n) [] [0] [0] 1) :
    ScatterDims (shape1 N) (shape2 n 1) (shape1 n) where
  updateWindowDims := []
  insertedWindowDims := [0]
  scatterDimsToOperandDims := [0]
  indexVectorDim := 1
  wf := wf

/-- The dimension numbers of a sum of a matrix's rows over segments. -/
abbrev segDims2 (N n C : Nat) (wf : ScatterDims.WF (shape2 N C) (shape2 n 1) (shape2 n C) [1] [0] [0] 1) :
    ScatterDims (shape2 N C) (shape2 n 1) (shape2 n C) where
  updateWindowDims := [1]
  insertedWindowDims := [0]
  scatterDimsToOperandDims := [0]
  indexVectorDim := 1
  wf := wf

/-- Entry `i` lands in segment `e` exactly when its word, read signed, is `e`. -/
theorem seg1_lands {N n w : Nat} (wf : ScatterDims.WF (shape1 N) (shape2 n 1) (shape1 n) [] [0] [0] 1)
    (idx : IVec (shape2 n 1) w) (i : Fin n) (e : Fin N) :
    (segDims1 N n wf).resultIdx? (ix1 i) idx = some (ix1 e) ↔ (idx (ix2 i (0 : Fin 1))).toInt = (e.val : Int) := by
  rw [resultIdx?_ix1]
  have hw : (segDims1 N n wf).window (ix1 i) 0 = 0 := by
    unfold ScatterDims.window
    rw [dif_neg (fun h => (of_decide_eq_true (List.mem_filter.1 h).2) (List.mem_singleton.2 rfl))]
  have hs : (segDims1 N n wf).start (ix1 i) idx 0 = (idx (ix2 i (0 : Fin 1))).toInt := by
    unfold ScatterDims.start
    rw [dif_pos (show (0 : Fin 1) ∈ (segDims1 N n wf).scatterDimsToOperandDims from List.mem_singleton.2 rfl)]
    refine congrArg (fun q => (idx q).toInt) (funext fun b => Fin.ext ?_)
    match b with
    | ⟨0, _⟩ => rfl
    | ⟨1, _⟩ => rfl
  rw [hw, hs]
  simp

/-- Entry `(i, c)` lands at `(e, k)` exactly when its row's word, read signed, is `e` and its column is `k`. -/
theorem seg2_lands {N n C w : Nat} (wf : ScatterDims.WF (shape2 N C) (shape2 n 1) (shape2 n C) [1] [0] [0] 1)
    (idx : IVec (shape2 n 1) w) (i : Fin n) (c : Fin C) (e : Fin N) (k : Fin C) :
    (segDims2 N n C wf).resultIdx? (ix2 i c) idx = some (ix2 e k)
      ↔ (idx (ix2 i (0 : Fin 1))).toInt = (e.val : Int) ∧ c = k := by
  rw [resultIdx?_ix2]
  have hw0 : (segDims2 N n C wf).window (ix2 i c) 0 = 0 := by
    unfold ScatterDims.window
    rw [dif_neg (fun h => (of_decide_eq_true (List.mem_filter.1 h).2) (List.mem_singleton.2 rfl))]
  have hw1 : (segDims2 N n C wf).window (ix2 i c) 1 = c.val := by
    unfold ScatterDims.window
    rw [dif_pos (show (1 : Fin 2) ∈ (segDims2 N n C wf).sKept from
      List.mem_filter.2 ⟨List.mem_finRange _, decide_eq_true (show ¬ (1 : Fin 2) ∈ [(0 : Fin 2)] by decide)⟩)]
    rfl
  have hs0 : (segDims2 N n C wf).start (ix2 i c) idx 0 = (idx (ix2 i (0 : Fin 1))).toInt := by
    unfold ScatterDims.start
    rw [dif_pos (show (0 : Fin 2) ∈ (segDims2 N n C wf).scatterDimsToOperandDims from List.mem_singleton.2 rfl)]
    refine congrArg (fun q => (idx q).toInt) (funext fun b => Fin.ext ?_)
    match b with
    | ⟨0, _⟩ => rfl
    | ⟨1, _⟩ => rfl
  have hs1 : (segDims2 N n C wf).start (ix2 i c) idx 1 = 0 := by
    unfold ScatterDims.start
    rw [dif_neg (show ¬ (1 : Fin 2) ∈ [(0 : Fin 2)] by decide)]
  rw [hw0, hw1, hs0, hs1]
  simp [Fin.ext_iff]

/-- A vector of reals summed over segments, from zeros. -/
theorem seg1_sum {n : Nat} (wf : ScatterDims.WF (shape1 16) (shape2 n 1) (shape1 n) [] [0] [0] 1)
    (x : (shape1 16).Idx → EReal) (idx : IVec (shape2 n 1) 32) (u : (shape1 n).Idx → EReal) (g : Fin n → Fin 16) (f : Fin n → ℝ)
    (hx : ∀ s, x (ix1 s) = 0) (hi : ∀ i, idx (ix2 i 0) = BitVec.ofNat 32 (g i).val) (hu : ∀ i, u (ix1 i) = ((f i : ℝ) : EReal)) (s : Fin 16) :
    Ideal.hostScatterAdd (segDims1 16 n wf) x idx u (ix1 s) = ((∑ i, if g i = s then f i else 0 : ℝ) : EReal) := by
  unfold Ideal.hostScatterAdd
  rw [hx, zero_add, Finset.sum_filter, ← (idxEquiv1 (n := n)).symm.sum_comp, ← coe_sum]
  refine Finset.sum_congr rfl fun i _ => ?_
  show (if (segDims1 16 n wf).resultIdx? (ix1 i) idx = some (ix1 s) then u (ix1 i) else 0) = _
  have e : ∀ a s : Fin 16, (BitVec.ofNat 32 a.val).toInt = (s.val : Int) ↔ a = s := by decide
  simp only [seg1_lands, hi, hu, e]
  split <;> simp

/-- A matrix of reals whose rows are summed over segments, from zeros. -/
theorem seg2_sum {n C : Nat} (wf : ScatterDims.WF (shape2 16 C) (shape2 n 1) (shape2 n C) [1] [0] [0] 1)
    (x : (shape2 16 C).Idx → EReal) (idx : IVec (shape2 n 1) 32) (u : (shape2 n C).Idx → EReal) (g : Fin n → Fin 16)
    (f : Fin n → Fin C → ℝ) (hx : ∀ s k, x (ix2 s k) = 0) (hi : ∀ i, idx (ix2 i 0) = BitVec.ofNat 32 (g i).val)
    (hu : ∀ i k, u (ix2 i k) = ((f i k : ℝ) : EReal)) (s : Fin 16) (k : Fin C) :
    Ideal.hostScatterAdd (segDims2 16 n C wf) x idx u (ix2 s k) = ((∑ i, if g i = s then f i k else 0 : ℝ) : EReal) := by
  unfold Ideal.hostScatterAdd
  rw [hx, zero_add, Finset.sum_filter, sum_idx2, ← coe_sum]
  refine Finset.sum_congr rfl fun i _ => ?_
  have e : ∀ a s : Fin 16, (BitVec.ofNat 32 a.val).toInt = (s.val : Int) ↔ a = s := by decide
  simp only [seg2_lands, hi, hu, e]
  by_cases h : g i = s
  · simp [h]
  · simp [h]

/-- The word of a number below sixteen, wrapped as a negative index would be, is itself. -/
theorem word_wrap (a : Fin 16) :
    Scalar.select (IntOp.cmpi .slt (BitVec.ofNat 32 a.val) 0#32) (IntOp.addi (BitVec.ofNat 32 a.val) 16#32) (BitVec.ofNat 32 a.val)
      = BitVec.ofNat 32 a.val := by
  revert a; decide

/-- It is in range. -/
theorem word_in (a : Fin 16) :
    IntOp.andi (IntOp.cmpi .sge (BitVec.ofNat 32 a.val) 0#32) (IntOp.cmpi .sle (BitVec.ofNat 32 a.val) 15#32) = 1#1 := by
  revert a; decide

/-- A word at least zero and below sixteen is the word of a number below sixteen. -/
theorem word_of_range {w : BitVec 32} (h0 : IntOp.cmpi .sge w 0#32 = 1#1) (h1 : IntOp.cmpi .slt w 16#32 = 1#1) :
    ∃ a : Fin 16, w = BitVec.ofNat 32 a.val := by
  have b : ∀ p : Bool, BitVec.ofBool p = 1#1 → p = true := by decide
  have e0 : (0#32).sle w = true := b _ h0
  have e1 : w.slt 16#32 = true := b _ h1
  have l0 : (0 : Int) ≤ w.toInt := by simpa [BitVec.sle] using e0
  have l1 : w.toInt < 16 := by simpa [BitVec.slt] using e1
  have l2 : w.toNat < 16 := by
    rw [BitVec.toInt_eq_toNat_cond] at l0 l1
    split at l0 <;> omega
  exact ⟨⟨w.toNat, l2⟩, by simp⟩

end Cert.SegMath
-- ==== Proof.Value.Ref.lean ====
module

public import proofs.«01_k».proof.Proof.Gen.ReferenceIdeal.Read
public import proofs.«01_k».proof.Proof.Value.Reads
public import proofs.«01_k».proof.Proof.Value.Ops
public import Idealize.ShloMosaic.Lib.IdealHost

@[expose] public section

set_option maxRecDepth 16384

/-! The reference over arguments that are real: its intermediate arrays and its two results, as real numbers. -/

noncomputable section

namespace Cert.ReferenceIdeal.Val

open Cert.ReferenceIdeal Cert.ReferenceIdeal.Gen Cert.ReferenceIdeal.Read Cert.SegMath
open Idealize.ShloMosaic
open scoped BigOperators

variable {x0 : Vec Ideal S32768x64 .f32} {x1 : Vec Ideal S16x128 .f32} {x2 : Vec Ideal S32768 .i32}
  {x3 : Vec Ideal S64x64 .f32} {x4 : Vec Ideal S64 .f32} {x5 : Vec Ideal S64x64 .f32} {x6 : Vec Ideal S64 .f32}
  {x7 : Vec Ideal S64x128 .f32} {x8 : Vec Ideal S128 .f32} {x9 : Vec Ideal S128x64 .f32} {x10 : Vec Ideal S64 .f32}
  {I : Inputs} (R : Reads x0 x1 x2 x3 x4 x5 x6 x7 x8 x9 x10 I)
include R

/-! ## The layers -/

/-- The first hidden layer. -/
theorem hid1 (i : Fin 32768) (k : Fin 64) :
    val_main_v4 (F := Ideal) x0 x3 x4 (ix2 i k) = ((max (layer (I.obj i) I.w1 I.b1 k) 0 : ℝ) : EReal) := by
  have e : val_main_v0 (F := Ideal) x0 x3 (ix2 i k) = ((∑ j, I.obj i j * I.w1 j k : ℝ) : EReal) := by
    rw [val_main_v0_apply, ← dot_coe]
    exact Finset.sum_congr rfl fun j _ => congrArg₂ (· * ·)
      ((congrArg x0 (ValueIdx.eq_ix2 _)).trans (R.obj i j)) ((congrArg x3 (ValueIdx.eq_ix2 _)).trans (R.w1 j k))
  have e2 : val_main_v2 (F := Ideal) x4 (ix2 i k) = ((I.b1 k : ℝ) : EReal) := by
    rw [val_main_v2_apply, val_main_v1_apply]
    exact (congrArg x4 (ValueIdx.eq_ix1 _)).trans (R.b1 k)
  rw [val_main_v4_apply, val_main_v3_apply, e, e2, val_main_call0_v0_apply, val_main_call0_cst_apply]
  show max _ (Ideal.ofBits .f32 0#32) = _
  rw [Ideal.ofBits_zero_f32]
  show max (((_ : ℝ) : EReal) + ((_ : ℝ) : EReal)) 0 = _
  rw [← EReal.coe_add, coe_max_zero]
  rfl

/-- The second. -/
theorem hid2 (i : Fin 32768) (k : Fin 64) : val_main_v9 (F := Ideal) x0 x3 x4 x5 x6 (ix2 i k) = ((I.hid i k : ℝ) : EReal) := by
  have e : val_main_v5 (F := Ideal) x0 x3 x4 x5 (ix2 i k) = ((∑ j, max (layer (I.obj i) I.w1 I.b1 j) 0 * I.w2 j k : ℝ) : EReal) := by
    rw [val_main_v5_apply, ← dot_coe]
    exact Finset.sum_congr rfl fun j _ => congrArg₂ (· * ·)
      ((congrArg (val_main_v4 (F := Ideal) x0 x3 x4) (ValueIdx.eq_ix2 _)).trans (hid1 R i j)) ((congrArg x5 (ValueIdx.eq_ix2 _)).trans (R.w2 j k))
  have e2 : val_main_v7 (F := Ideal) x6 (ix2 i k) = ((I.b2 k : ℝ) : EReal) := by
    rw [val_main_v7_apply, val_main_v6_apply]
    exact (congrArg x6 (ValueIdx.eq_ix1 _)).trans (R.b2 k)
  rw [val_main_v9_apply, val_main_v8_apply, e, e2, val_main_call1_v0_apply, val_main_call1_cst_apply]
  show max _ (Ideal.ofBits .f32 0#32) = _
  rw [Ideal.ofBits_zero_f32]
  show max (((_ : ℝ) : EReal) + ((_ : ℝ) : EReal)) 0 = _
  rw [← EReal.coe_add, coe_max_zero]
  rfl

/-- The keys and the values, side by side. -/
theorem keyval (i : Fin 32768) (k : Fin 128) :
    val_main_v13 (F := Ideal) x0 x3 x4 x5 x6 x7 x8 (ix2 i k) = ((layer (I.hid i) I.w3 I.b3 k : ℝ) : EReal) := by
  have e : val_main_v10 (F := Ideal) x0 x3 x4 x5 x6 x7 (ix2 i k) = ((∑ j, I.hid i j * I.w3 j k : ℝ) : EReal) := by
    rw [val_main_v10_apply, ← dot_coe]
    exact Finset.sum_congr rfl fun j _ => congrArg₂ (· * ·)
      ((congrArg (val_main_v9 (F := Ideal) x0 x3 x4 x5 x6) (ValueIdx.eq_ix2 _)).trans (hid2 R i j)) ((congrArg x7 (ValueIdx.eq_ix2 _)).trans (R.w3 j k))
  have e2 : val_main_v12 (F := Ideal) x8 (ix2 i k) = ((I.b3 k : ℝ) : EReal) := by
    rw [val_main_v12_apply, val_main_v11_apply]
    exact (congrArg x8 (ValueIdx.eq_ix1 _)).trans (R.b3 k)
  rw [val_main_v13_apply, e, e2]
  exact (EReal.coe_add _ _).symm

/-- The keys. -/
theorem keys (i : Fin 32768) (k : Fin 64) : val_main_v14 (F := Ideal) x0 x3 x4 x5 x6 x7 x8 (ix2 i k) = ((I.key i k : ℝ) : EReal) := by
  rw [val_main_v14_apply]
  refine (congrArg (val_main_v13 (F := Ideal) x0 x3 x4 x5 x6 x7 x8) ?_).trans (keyval R i (lo k))
  funext a
  match a with
  | ⟨0, _⟩ => rfl
  | ⟨1, _⟩ => rfl

/-- The values. -/
theorem vals (i : Fin 32768) (k : Fin 64) : val_main_v15 (F := Ideal) x0 x3 x4 x5 x6 x7 x8 (ix2 i k) = ((I.val i k : ℝ) : EReal) := by
  rw [val_main_v15_apply]
  refine (congrArg (val_main_v13 (F := Ideal) x0 x3 x4 x5 x6 x7 x8) ?_).trans (keyval R i (hi k))
  funext a
  match a with
  | ⟨0, _⟩ => rfl
  | ⟨1, _⟩ => rfl

/-- The queries, one for each segment. -/
theorem queries (s : Fin 16) (k : Fin 64) : val_main_v19 (F := Ideal) x1 x9 x10 (ix2 s k) = ((I.qry s k : ℝ) : EReal) := by
  have e : val_main_v16 (F := Ideal) x1 x9 (ix2 s k) = ((∑ j, I.ctx s j * I.wq j k : ℝ) : EReal) := by
    rw [val_main_v16_apply, ← dot_coe]
    exact Finset.sum_congr rfl fun j _ => congrArg₂ (· * ·)
      ((congrArg x1 (ValueIdx.eq_ix2 _)).trans (R.ctx s j)) ((congrArg x9 (ValueIdx.eq_ix2 _)).trans (R.wq j k))
  have e2 : val_main_v18 (F := Ideal) x10 (ix2 s k) = ((I.bq k : ℝ) : EReal) := by
    rw [val_main_v18_apply, val_main_v17_apply]
    exact (congrArg x10 (ValueIdx.eq_ix1 _)).trans (R.bq k)
  rw [val_main_v19_apply, e, e2]
  exact (EReal.coe_add _ _).symm

/-! ## The takes by segment -/

/-- The first take's index column. -/
theorem index2 (i : Fin 32768) (u : Fin 1) : val_main_call2_v5 (F := Ideal) x2 (ix2 i u) = BitVec.ofNat 32 (I.seg i).val := by
  rw [val_main_call2_v5_apply, val_main_call2_v4_apply, val_main_call2_v1_apply, val_main_call2_v3_apply, val_main_call2_v0_apply,
    val_main_call2_v2_apply, val_main_call2_c_apply, val_main_call2_c_0_apply,
    show x2 (idx_main_call2_v5 (ix2 i u)) = _ from (congrArg x2 (ValueIdx.eq_ix1 _)).trans (R.seg i)]
  exact word_wrap _

/-- Its mask is set everywhere. -/
theorem mask2 (i : S32768.Idx) : val_main_call2_v12 (F := Ideal) x2 i = 1#1 := by
  refine Host.reduce_andi_one _ _ _ _ i rfl fun j => ?_
  obtain ⟨a, u, rfl⟩ : ∃ a u, j = ix2 a u := ⟨j 0, j 1, ValueIdx.eq_ix2 j⟩
  rw [val_main_call2_v11_apply, val_main_call2_v7_apply, val_main_call2_v10_apply, index2 R, val_main_call2_v6_apply, val_main_call2_v9_apply,
    val_main_call2_v8_apply, val_main_call2_c_1_apply, val_main_call2_c_2_apply]
  exact word_in _

/-- A row's query. -/
theorem query (i : Fin 32768) (k : Fin 64) : val_main_v20 (F := Ideal) x1 x2 x9 x10 (ix2 i k) = ((I.qry (I.seg i) k : ℝ) : EReal) := by
  rw [val_main_v20_apply, val_main_call2_v14_apply, mask2 R, ValueIdx.select_one]
  unfold val_main_call2_v13
  exact (Routing.gather_row gather_S16x64_S32768x1_S32768x64_1_0_n_n_0_1_164 rfl rfl rfl rfl rfl _ _ i k (I.seg i) (index2 R i 0) (by decide)).trans
    (queries R _ _)

/-- The second take's index column. -/
theorem index5 (i : Fin 32768) (u : Fin 1) : val_main_call5_v5 (F := Ideal) x2 (ix2 i u) = BitVec.ofNat 32 (I.seg i).val := by
  rw [val_main_call5_v5_apply, val_main_call5_v4_apply, val_main_call5_v1_apply, val_main_call5_v3_apply, val_main_call5_v0_apply,
    val_main_call5_v2_apply, val_main_call5_c_apply, val_main_call5_c_0_apply,
    show x2 (idx_main_call5_v5 (ix2 i u)) = _ from (congrArg x2 (ValueIdx.eq_ix1 _)).trans (R.seg i)]
  exact word_wrap _

/-- Its mask is set everywhere. -/
theorem mask5 (i : S32768.Idx) : val_main_call5_v12 (F := Ideal) x2 i = 1#1 := by
  refine Host.reduce_andi_one _ _ _ _ i rfl fun j => ?_
  obtain ⟨a, u, rfl⟩ : ∃ a u, j = ix2 a u := ⟨j 0, j 1, ValueIdx.eq_ix2 j⟩
  rw [val_main_call5_v11_apply, val_main_call5_v7_apply, val_main_call5_v10_apply, index5 R, val_main_call5_v6_apply, val_main_call5_v9_apply,
    val_main_call5_v8_apply, val_main_call5_c_1_apply, val_main_call5_c_2_apply]
  exact word_in _

/-- The third take's index column. -/
theorem index6 (i : Fin 32768) (u : Fin 1) : val_main_call6_v5 (F := Ideal) x2 (ix2 i u) = BitVec.ofNat 32 (I.seg i).val := by
  rw [val_main_call6_v5_apply, val_main_call6_v4_apply, val_main_call6_v1_apply, val_main_call6_v3_apply, val_main_call6_v0_apply,
    val_main_call6_v2_apply, val_main_call6_c_apply, val_main_call6_c_0_apply,
    show x2 (idx_main_call6_v5 (ix2 i u)) = _ from (congrArg x2 (ValueIdx.eq_ix1 _)).trans (R.seg i)]
  exact word_wrap _

/-- Its mask is set everywhere. -/
theorem mask6 (i : S32768.Idx) : val_main_call6_v12 (F := Ideal) x2 i = 1#1 := by
  refine Host.reduce_andi_one _ _ _ _ i rfl fun j => ?_
  obtain ⟨a, u, rfl⟩ : ∃ a u, j = ix2 a u := ⟨j 0, j 1, ValueIdx.eq_ix2 j⟩
  rw [val_main_call6_v11_apply, val_main_call6_v7_apply, val_main_call6_v10_apply, index6 R, val_main_call6_v6_apply, val_main_call6_v9_apply,
    val_main_call6_v8_apply, val_main_call6_c_1_apply, val_main_call6_c_2_apply]
  exact word_in _

/-! ## The logits, the shifted exponentials and the results -/

/-- A row's logit against its own segment's query. -/
theorem logits (i : Fin 32768) : val_main_v25 (F := Ideal) x0 x1 x2 x3 x4 x5 x6 x7 x8 x9 x10 (ix1 i) = ((I.own i : ℝ) : EReal) := by
  have e : val_main_v22 (F := Ideal) x0 x1 x2 x3 x4 x5 x6 x7 x8 x9 x10 (ix1 i) = ((∑ k, I.qry (I.seg i) k * I.key i k : ℝ) : EReal) := by
    rw [val_main_v22_apply, val_main_cst_apply, ← dot_coe]
    show Ideal.ofBits .f32 0#32 + _ = _
    rw [Ideal.ofBits_zero_f32, zero_add]
    refine Finset.sum_congr rfl fun k _ => ?_
    rw [show idx_main_v22 (ix1 i) k = ix2 i k from ValueIdx.eq_ix2 _, val_main_v21_apply, query R, keys R]
    rfl
  have e2 : val_main_v24 (F := Ideal) (ix1 i) = ((8 : ℝ) : EReal) := by
    rw [val_main_v24_apply]
    show Ideal.sqrt (Ideal.ofBits .f32 0x42800000#32) = _
    rw [ofBits_64]
    show (if (64 : ℝ) < 0 then ⊥ else ((Real.sqrt 64 : ℝ) : EReal)) = _
    rw [if_neg (by norm_num), show (64 : ℝ) = 8 ^ 2 by norm_num, Real.sqrt_sq (by norm_num)]
  rw [val_main_v25_apply, e, e2]
  show Ideal.div _ _ = _
  rw [div_coe _ (by norm_num)]
  rfl

/-- The shift of a segment is real, whatever the largest logit came out as. -/
theorem shift : ∃ M : Fin 16 → ℝ, ∀ s, val_main_v38 (F := Ideal) x0 x1 x2 x3 x4 x5 x6 x7 x8 x9 x10 (ix1 s) = ((M s : ℝ) : EReal) := by
  refine Classical.axiomOfChoice (r := fun s (r : ℝ) => val_main_v38 (F := Ideal) x0 x1 x2 x3 x4 x5 x6 x7 x8 x9 x10 (ix1 s) = (r : EReal)) fun s => ?_
  rw [val_main_v38_apply, val_main_v37_apply, val_main_v35_apply, val_main_v36_apply, val_main_cst_3_apply, val_main_call4_v1_apply]
  generalize val_main_v34 (F := Ideal) x0 x1 x2 x3 x4 x5 x6 x7 x8 x9 x10 (ix1 s) = v
  show ∃ r : ℝ, Scalar.select (Ideal.cmp .olt (max v (-v)) (Ideal.ofBits .f32 0x7F800000#32)) v (Ideal.ofBits .f32 0#32) = (r : EReal)
  rw [ofBits_inf, Ideal.ofBits_zero_f32]
  by_cases h : max v (-v) < ⊤
  · obtain ⟨r, rfl⟩ := real_of_abs_lt h
    refine ⟨r, ?_⟩
    have : Ideal.cmp .olt (max ((r : ℝ) : EReal) (-((r : ℝ) : EReal))) ⊤ = 1#1 := by
      simp [Ideal.cmp, h]
    rw [this, ValueIdx.select_one]
  · refine ⟨0, ?_⟩
    have : Ideal.cmp .olt (max v (-v)) ⊤ = 0#1 := by
      simp [Ideal.cmp, h]
    rw [this, ValueIdx.select_zero]
    rfl

section Shifted

variable {M : Fin 16 → ℝ} (hM : ∀ s, val_main_v38 (F := Ideal) x0 x1 x2 x3 x4 x5 x6 x7 x8 x9 x10 (ix1 s) = ((M s : ℝ) : EReal))
include hM

/-- A row's shift. -/
theorem shifts (i : Fin 32768) : val_main_v39 (F := Ideal) x0 x1 x2 x3 x4 x5 x6 x7 x8 x9 x10 (ix1 i) = ((M (I.seg i) : ℝ) : EReal) := by
  rw [val_main_v39_apply, mask5 R, ValueIdx.select_one]
  unfold val_main_call5_v13
  exact (Routing.take_ap gather_S16_S32768x1_S32768_n_0_n_n_0_1_1 rfl rfl rfl rfl _ _ i (I.seg i).isLt (by omega) (index5 R i 0)).trans (hM _)

/-- A row's shifted exponential. -/
theorem exps (i : Fin 32768) :
    val_main_v41 (F := Ideal) x0 x1 x2 x3 x4 x5 x6 x7 x8 x9 x10 (ix1 i) = ((Real.exp (I.own i - M (I.seg i)) : ℝ) : EReal) := by
  rw [val_main_v41_apply, val_main_v40_apply, logits R, shifts R hM]
  exact exp_sub_coe _ _

/-- A segment's denominator. -/
theorem denoms (s : Fin 16) :
    val_main_v44 (F := Ideal) x0 x1 x2 x3 x4 x5 x6 x7 x8 x9 x10 (ix1 s) = ((I.den (M s) s : ℝ) : EReal) := by
  have hz : ∀ s, val_main_v42 (F := Ideal) (ix1 s) = (0 : EReal) := fun s => by
    rw [val_main_v42_apply]; exact Ideal.ofBits_zero_f32
  have hi : ∀ i, val_main_v43 (F := Ideal) x2 (ix2 i 0) = BitVec.ofNat 32 (I.seg i).val := fun i => by
    rw [val_main_v43_apply]; exact (congrArg x2 (ValueIdx.eq_ix1 _)).trans (R.seg i)
  refine (seg1_sum scatter_S16_S32768x1_S32768_n_0_0_1_wf _ _ _ I.seg _ hz hi (exps R hM) s).trans (congrArg _ ?_)
  refine Finset.sum_congr rfl fun i _ => ?_
  unfold Inputs.term
  split
  · next h => rw [h]
  · rfl

/-- A row's denominator. -/
theorem denom (i : Fin 32768) :
    val_main_v45 (F := Ideal) x0 x1 x2 x3 x4 x5 x6 x7 x8 x9 x10 (ix1 i) = ((I.den (M (I.seg i)) (I.seg i) : ℝ) : EReal) := by
  rw [val_main_v45_apply, mask6 R, ValueIdx.select_one]
  unfold val_main_call6_v13
  exact (Routing.take_ap gather_S16_S32768x1_S32768_n_0_n_n_0_1_1 rfl rfl rfl rfl _ _ i (I.seg i).isLt (by omega) (index6 R i 0)).trans
    (denoms R hM _)

end Shifted

/-- The weights. -/
theorem weights (i : Fin 32768) : val_main_v46 (F := Ideal) x0 x1 x2 x3 x4 x5 x6 x7 x8 x9 x10 (ix1 i) = ((I.wt i : ℝ) : EReal) := by
  obtain ⟨M, hM⟩ := shift R
  rw [val_main_v46_apply, exps R hM, denom R hM]
  show Ideal.div _ _ = _
  rw [div_coe _ (I.den_pos _ i).ne', I.wt_shift]

/-- The embeddings. -/
theorem embeddings (s : Fin 16) (k : Fin 64) :
    val_main_v52 (F := Ideal) x0 x1 x2 x3 x4 x5 x6 x7 x8 x9 x10 (ix2 s k) = ((I.emb s k : ℝ) : EReal) := by
  have hz : ∀ s k, val_main_v50 (F := Ideal) (ix2 s k) = (0 : EReal) := fun s k => by
    rw [val_main_v50_apply]; exact Ideal.ofBits_zero_f32
  have hi : ∀ i, val_main_v51 (F := Ideal) x2 (ix2 i 0) = BitVec.ofNat 32 (I.seg i).val := fun i => by
    rw [val_main_v51_apply]; exact (congrArg x2 (ValueIdx.eq_ix1 _)).trans (R.seg i)
  have hu : ∀ i k, val_main_v49 (F := Ideal) x0 x1 x2 x3 x4 x5 x6 x7 x8 x9 x10 (ix2 i k) = ((I.wt i * I.val i k : ℝ) : EReal) := fun i k => by
    rw [val_main_v49_apply, val_main_v48_apply, val_main_v47_apply, vals R,
      show val_main_v46 (F := Ideal) x0 x1 x2 x3 x4 x5 x6 x7 x8 x9 x10 (idx_main_v47 (idx_main_v48 (ix2 i k))) = _ from
        (congrArg _ (ValueIdx.eq_ix1 _)).trans (weights R i)]
    exact (EReal.coe_mul _ _).symm
  exact seg2_sum scatter_S16x64_S32768x1_S32768x64_1_0_0_1_wf _ _ _ I.seg (fun i k => I.wt i * I.val i k) hz hi hu s k

end Cert.ReferenceIdeal.Val
-- ==== Proof.Value.Pre.lean ====
module

public import proofs.«01_k».proof.Proof.Gen.Pre_finite_inputs
public import proofs.«01_k».proof.Proof.Value.Reads
public import proofs.«01_k».proof.Proof.Value.Ops

@[expose] public section

set_option maxRecDepth 16384

/-! The precondition read back: the arguments hold real numbers, and segment numbers below sixteen. -/

noncomputable section

namespace Cert.Pre_finite_inputs

open Cert.SegMath Cert.Pre_finite_inputs.Facts
open Idealize.ShloMosaic

/-- There is one index into an array of no axes. -/
theorem idx_unique : Subsingleton S_.Idx := ⟨fun a b => funext fun k => k.elim0⟩

/-- An array all of whose absolute values are found below `+∞` holds reals. -/
theorem real_of_all {s : Shape} {axes : List (Fin s.rank)} (x : FVec Ideal s .f32) (hb : S_.BroadcastsInDim s (![] : Fin 0 → Fin s.rank))
    (hr : s.ReducesTo axes S_) (hu : 0 < S_.numel) (j : S_.Idx)
    (e : Host.reduce IntOp.andi (cmpf .olt (Host.absf x) (broadcastInDim s ![] hb (constant S_ .f32 0x7F800000#32))) (constantI S_ 1 1#1) hr hu j = 1#1)
    (i : s.Idx) : ∃ r : ℝ, x i = (r : EReal) := by
  haveI := idx_unique
  have h : BitVec.ofBool (decide (max (x i) (-(x i)) < Ideal.ofBits .f32 0x7F800000#32)) = 1#1 := Host.reduce_andi_all _ _ hr hu j e i
  have b : ∀ p : Bool, BitVec.ofBool p = 1#1 → p = true := by decide
  have h' := of_decide_eq_true (b _ h)
  rw [ofBits_inf] at h'
  exact real_of_abs_lt h'

/-- Words all found at least zero and below sixteen are words of numbers below sixteen. -/
theorem word_of_all {s : Shape} {axes : List (Fin s.rank)} (x : IVec s 32) (hb : S_.BroadcastsInDim s (![] : Fin 0 → Fin s.rank))
    (hr : s.ReducesTo axes S_) (hu : 0 < S_.numel) (j : S_.Idx)
    (e : Host.reduce IntOp.andi (andi (cmpi .sge x (broadcastInDim s ![] hb (constantI S_ 32 0#32)))
      (cmpi .slt x (broadcastInDim s ![] hb (constantI S_ 32 16#32)))) (constantI S_ 1 1#1) hr hu j = 1#1)
    (i : s.Idx) : ∃ a : Fin 16, x i = BitVec.ofNat 32 a.val := by
  haveI := idx_unique
  have h : IntOp.andi (IntOp.cmpi .sge (x i) 0#32) (IntOp.cmpi .slt (x i) 16#32) = 1#1 := Host.reduce_andi_all _ _ hr hu j e i
  obtain ⟨h0, h1⟩ := IntOp.andi_eq_one.1 h
  exact word_of_range h0 h1

/-- Where the precondition holds, the arguments hold some real inputs. -/
theorem inputs_of_pre [Facts] {x0 : FVec Ideal S32768x64 .f32} {x1 : FVec Ideal S16x128 .f32} {x2 : IVec S32768 32}
    {x3 : FVec Ideal S64x64 .f32} {x4 : FVec Ideal S64 .f32} {x5 : FVec Ideal S64x64 .f32} {x6 : FVec Ideal S64 .f32}
    {x7 : FVec Ideal S64x128 .f32} {x8 : FVec Ideal S128 .f32} {x9 : FVec Ideal S128x64 .f32} {x10 : FVec Ideal S64 .f32}
    (h : fn (F := Ideal) x0 x1 x2 x3 x4 x5 x6 x7 x8 x9 x10 = fun _ => 1#1) :
    ∃ I : Inputs, Reads x0 x1 x2 x3 x4 x5 x6 x7 x8 x9 x10 I := by
  have e := congrFun h ValueIdx.ix0
  dsimp only [fn, fn_part1, fn_part2, fn_part3] at e
  obtain ⟨e, e10⟩ := IntOp.andi_eq_one.1 e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e1⟩ := IntOp.andi_eq_one.1 e
  obtain ⟨e2, e0⟩ := IntOp.andi_eq_one.1 e
  choose f0 h0 using real_of_all x0 _ _ _ _ e0
  choose f1 h1 using real_of_all x1 _ _ _ _ e1
  choose f2 h2 using word_of_all x2 _ _ _ _ e2
  choose f3 h3 using real_of_all x3 _ _ _ _ e3
  choose f4 h4 using real_of_all x4 _ _ _ _ e4
  choose f5 h5 using real_of_all x5 _ _ _ _ e5
  choose f6 h6 using real_of_all x6 _ _ _ _ e6
  choose f7 h7 using real_of_all x7 _ _ _ _ e7
  choose f8 h8 using real_of_all x8 _ _ _ _ e8
  choose f9 h9 using real_of_all x9 _ _ _ _ e9
  choose f10 h10 using real_of_all x10 _ _ _ _ e10
  exact ⟨{ obj := fun i j => f0 (ix2 i j), ctx := fun s j => f1 (ix2 s j), seg := fun i => f2 (ix1 i)
           w1 := fun j k => f3 (ix2 j k), b1 := fun k => f4 (ix1 k), w2 := fun j k => f5 (ix2 j k), b2 := fun k => f6 (ix1 k)
           w3 := fun j k => f7 (ix2 j k), b3 := fun k => f8 (ix1 k), wq := fun j k => f9 (ix2 j k), bq := fun k => f10 (ix1 k) },
    { obj := fun i j => h0 _, ctx := fun s j => h1 _, seg := fun i => h2 _, w1 := fun j k => h3 _, b1 := fun k => h4 _
      w2 := fun j k => h5 _, b2 := fun k => h6 _, w3 := fun j k => h7 _, b3 := fun k => h8 _, wq := fun j k => h9 _, bq := fun k => h10 _ }⟩

end Cert.Pre_finite_inputs
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_inputs
public import proofs.«01_k».proof.Proof.Kernel.Run
public import proofs.«01_k».proof.Proof.KernelIdeal.Run
public import proofs.«01_k».proof.Proof.Value.Arr2
public import proofs.«01_k».proof.Proof.Value.Ref
public import proofs.«01_k».proof.Proof.Value.Pre
public import Idealize.ShloMosaic.Adequacy
public import Idealize.ShloMosaic.Init

@[expose] public section

noncomputable section

namespace Cert.Proof

open Idealize.ShloMosaic Idealize.ShloMosaic.TcCoe Idealize.SL.Sem

/-- The kernel, bit by bit: it terminates, leaves its arguments as they were and every counter at zero. -/
theorem frame_kernel : Cert.quiescent_Kernel := fun m ρ _ => Cert.Kernel.Seg.frame m ρ

/-- So does the idealized kernel, from any memory. -/
theorem frame_ideal : Cert.quiescent_KernelIdeal := fun m ρ _ => Cert.KernelIdeal.Seg.frame m ρ

/-- And from one where the precondition holds. -/
theorem frame_ideal_pre : Cert.quiescent_KernelIdeal_pre_finite_inputs := fun m ρ _ => Cert.KernelIdeal.Seg.frame m ρ

/-- So does the idealized reference, from any memory. -/
theorem frame_ref : Cert.quiescent_ReferenceIdeal := fun m ρ _ =>
  (θ_run (Cert.ReferenceIdeal.defs (F := Ideal)) _ _).mono
    (fun r h => ⟨fun c => (h c).2.2, Idealize.ShloMosaic.sem_eq_zero_of_no_sems (by decide) r.2⟩)
    (Cert.ReferenceIdeal.Value.run (F := Ideal) m ρ)

/-- And from one where the precondition holds. -/
theorem frame_ref_pre : Cert.quiescent_ReferenceIdeal_pre_finite_inputs := fun m ρ _ => frame_ref m ρ trivial

/-- The kernel is printed with no operation replaced, so there is nothing to preserve. -/
theorem preserves : Cert.preserves_Kernel_KernelIdeal := trivial

/-- Over one set of real inputs the two programs' first results are the same array: the embeddings. -/
theorem same_emb {m : (ℓ : Loc Cert.KernelIdeal.nD Cert.KernelIdeal.τ Cert.KernelIdeal.sig) → Buf (Elt Ideal) ℓ} {c : Dev Cert.KernelIdeal.nD}
    {I : Cert.SegMath.Inputs} (G : Cert.KernelIdeal.Val.Given m c I) (v : Vec Ideal Cert.ReferenceIdeal.S16x64 .f32)
    (h : ∀ s k, v (ix2 s k) = ((I.emb s k : ℝ) : EReal)) :
    v = (Cert.KernelIdeal.Seg.W5 m c Cert.KernelIdeal.main_v0_0 : Vec Ideal Cert.KernelIdeal.S16x64 .f32) := by
  funext i
  obtain ⟨s, k, rfl⟩ : ∃ s k, i = ix2 s k := ⟨i 0, i 1, ValueIdx.eq_ix2 i⟩
  exact (h s k).trans (Cert.KernelIdeal.Val.out_emb G s k).symm

/-- And so are their second: the weights. -/
theorem same_wt {m : (ℓ : Loc Cert.KernelIdeal.nD Cert.KernelIdeal.τ Cert.KernelIdeal.sig) → Buf (Elt Ideal) ℓ} {c : Dev Cert.KernelIdeal.nD}
    {I : Cert.SegMath.Inputs} (G : Cert.KernelIdeal.Val.Given m c I) (v : Vec Ideal Cert.ReferenceIdeal.S32768 .f32)
    (h : ∀ i, v (ix1 i) = ((I.wt i : ℝ) : EReal)) :
    v = (Cert.KernelIdeal.Seg.W5 m c Cert.KernelIdeal.main_v0_1 : Vec Ideal Cert.KernelIdeal.S32768 .f32) := by
  funext i
  obtain ⟨j, rfl⟩ : ∃ j, i = ix1 j := ⟨i 0, ValueIdx.eq_ix1 i⟩
  exact (h j).trans (Cert.KernelIdeal.Val.out_wt G j).symm

/-- Where the precondition holds, the idealized kernel and the idealized reference end with equal results. -/
theorem algebraic : Cert.algebraic_KernelIdeal_ReferenceIdeal_pre_finite_inputs := by
  intro m g m' g' pre args
  refine ⟨fun c => Cert.KernelIdeal.Seg.W5 m c Cert.KernelIdeal.main_v0_0, fun c => Cert.KernelIdeal.Seg.W5 m c Cert.KernelIdeal.main_v0_1, ?_, ?_⟩
  · refine (θ_run (Cert.KernelIdeal.defs (F := Ideal)) _ _).mono (fun r h c => ?_) (Cert.KernelIdeal.Seg.run_all (F := Ideal) m g)
    have arg := fun a (ha : a ∈ Cert.KernelIdeal.Seg.argRefs) (hs) =>
      (h.1 c _ (Cert.KernelIdeal.Seg.mem_uc a hs)).trans (Cert.KernelIdeal.Seg.W5_args m c a ha)
    exact ⟨h.1 c _ (Cert.KernelIdeal.Seg.mem_uc Cert.KernelIdeal.main_v0_0 (by decide)),
      h.1 c _ (Cert.KernelIdeal.Seg.mem_uc Cert.KernelIdeal.main_v0_1 (by decide)),
      arg Cert.KernelIdeal.main_arg0 (by decide) (by decide), arg Cert.KernelIdeal.main_arg1 (by decide) (by decide),
      arg Cert.KernelIdeal.main_arg2 (by decide) (by decide), arg Cert.KernelIdeal.main_arg3 (by decide) (by decide),
      arg Cert.KernelIdeal.main_arg4 (by decide) (by decide), arg Cert.KernelIdeal.main_arg5 (by decide) (by decide),
      arg Cert.KernelIdeal.main_arg6 (by decide) (by decide), arg Cert.KernelIdeal.main_arg7 (by decide) (by decide),
      arg Cert.KernelIdeal.main_arg8 (by decide) (by decide), arg Cert.KernelIdeal.main_arg9 (by decide) (by decide),
      arg Cert.KernelIdeal.main_arg10 (by decide) (by decide)⟩
  · refine (θ_run (Cert.ReferenceIdeal.defs (F := Ideal)) _ _).mono (fun r h c => ?_) (Cert.ReferenceIdeal.Value.run (F := Ideal) m' g')
    obtain ⟨I, G⟩ := Cert.Pre_finite_inputs.inputs_of_pre (pre c)
    obtain ⟨a0, a1, a2, a3, a4, a5, a6, a7, a8, a9, a10⟩ := args c
    refine ⟨(h c).1.trans ?_, (h c).2.1.trans ?_, (h c).2.2⟩
    · rw [Cert.ReferenceIdeal.Read.val_main_v52_eq, a0, a1, a2, a3, a4, a5, a6, a7, a8, a9, a10]
      exact same_emb G _ (Cert.ReferenceIdeal.Val.embeddings G)
    · rw [Cert.ReferenceIdeal.Read.val_main_v46_eq, a0, a1, a2, a3, a4, a5, a6, a7, a8, a9, a10]
      exact same_wt G _ (Cert.ReferenceIdeal.Val.weights G)

/-- Everything that is claimed. -/
theorem claim : Cert.Claim :=
  ⟨Cert.Kernel.Gen.facts, Cert.KernelIdeal.Gen.facts, Cert.ReferenceIdeal.Gen.facts, Cert.Pre_finite_inputs.Gen.facts,
    frame_kernel, frame_ideal, frame_ideal_pre, frame_ref, frame_ref_pre, preserves, algebraic⟩

end Cert.Proof

end
